-- ==== Defs.lean ====
def Pre_Kernel [hPre_actions_in_range : Cert.Pre_actions_in_range.Facts] (m : (ℓ : Loc Cert.Kernel.nD Cert.Kernel.τ Cert.Kernel.sig) → Buf (Elt Bits) ℓ) : Prop :=
  ∀ c : Dev Cert.Kernel.nD,
    (Cert.Pre_actions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_actions_in_range : Cert.Pre_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_actions_in_range_and_rows_finite [hPre_actions_in_range_and_rows_finite : Cert.Pre_actions_in_range_and_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range_and_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_actions_in_range_and_rows_finite [hPre_actions_in_range_and_rows_finite : Cert.Pre_actions_in_range_and_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_actions_in_range_and_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_actions_in_range : Cert.Pre_actions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_actions_in_range_and_rows_finite [hKernelIdeal : Cert.KernelIdeal.Facts] [hPre_actions_in_range_and_rows_finite : Cert.Pre_actions_in_range_and_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_actions_in_range_and_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_actions_in_range_and_rows_finite [hReferenceIdeal : Cert.ReferenceIdeal.Facts] [hPre_actions_in_range_and_rows_finite : Cert.Pre_actions_in_range_and_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_actions_in_range_and_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_actions_in_range_and_rows_finite [hKernelIdeal : Cert.KernelIdeal.Facts] [hReferenceIdeal : Cert.ReferenceIdeal.Facts] [hPre_actions_in_range_and_rows_finite : Cert.Pre_actions_in_range_and_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_actions_in_range_and_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_actions_in_range : Cert.Pre_actions_in_range.Facts) (hPre_actions_in_range_and_rows_finite : Cert.Pre_actions_in_range_and_rows_finite.Facts),
    quiescent_Kernel (hKernel := hKernel) (hPre_actions_in_range := hPre_actions_in_range)
    ∧ quiescent_KernelIdeal (hKernelIdeal := hKernelIdeal) (hPre_actions_in_range := hPre_actions_in_range)
    ∧ quiescent_KernelIdeal_pre_actions_in_range_and_rows_finite (hKernelIdeal := hKernelIdeal) (hPre_actions_in_range_and_rows_finite := hPre_actions_in_range_and_rows_finite)
    ∧ quiescent_ReferenceIdeal (hReferenceIdeal := hReferenceIdeal)
    ∧ quiescent_ReferenceIdeal_pre_actions_in_range_and_rows_finite (hReferenceIdeal := hReferenceIdeal) (hPre_actions_in_range_and_rows_finite := hPre_actions_in_range_and_rows_finite)
    ∧ preserves_Kernel_KernelIdeal
    ∧ algebraic_KernelIdeal_ReferenceIdeal_pre_actions_in_range_and_rows_finite (hKernelIdeal := hKernelIdeal) (hReferenceIdeal := hReferenceIdeal) (hPre_actions_in_range_and_rows_finite := hPre_actions_in_range_and_rows_finite)
-- ==== Pre_actions_in_range.lean ====
abbrev S1024x100000 : Shape := ⟨2, ![1024, 100000]⟩
abbrev S1024x2 : Shape := ⟨2, ![1024, 2]⟩
abbrev S11 : Shape := ⟨1, ![11]⟩
abbrev S1024x1 : Shape := ⟨2, ![1024, 1]⟩
abbrev S1x11 : Shape := ⟨2, ![1, 11]⟩
abbrev S1024x11 : Shape := ⟨2, ![1024, 11]⟩
abbrev S_ : Shape := ⟨0, ![]⟩

class Facts : Prop where
  slices_S1024x2_S1024x1_0_0 : S1024x2.Slices ![0, 0] S1024x1
  slices_S1024x2_S1024x1_0_1 : S1024x2.Slices ![0, 1] S1024x1
  bcast_S11_S1x11_1 : S11.BroadcastsInDim S1x11 (![1] : Fin 1 → Fin S1x11.rank)
  bcast_S1x11_S1024x11_0_1 : S1x11.BroadcastsInDim S1024x11 (![0, 1] : Fin 2 → Fin S1024x11.rank)
  bcast_S1024x1_S1024x11_0_1 : S1024x1.BroadcastsInDim S1024x11 (![0, 1] : Fin 2 → Fin S1024x11.rank)
  bcast_S_S1024x11 : S_.BroadcastsInDim S1024x11 (![] : Fin 0 → Fin S1024x11.rank)
  bcast_S_S1024x1 : S_.BroadcastsInDim S1024x1 (![] : Fin 0 → Fin S1024x1.rank)

variable [Facts]

def fn_part1 {F : FTy → Type} [FloatOps F] (main_v12 : IVec S1024x11 1) (main_v17 : IVec S1024x1 1) (main_v18 : IVec S1x11 32) (main_v19 : IVec S1024x11 32) : IVec S1024x11 1 :=
  let main_v20 : IVec S1024x11 32 := broadcastInDim S1024x11 ![0, 1] bcast_S1x11_S1024x11_0_1 main_v18
  let main_v21 : IVec S1024x11 1 := cmpi .ne main_v19 main_v20
  let main_v22 : IVec S1024x11 1 := ori main_v21 main_v12
  let main_v23 : IVec S1024x11 1 := broadcastInDim S1024x11 ![0, 1] bcast_S1024x1_S1024x11_0_1 main_v17
  let main_v24 : IVec S1024x11 1 := andi main_v23 main_v22
  main_v24

def fn {F : FTy → Type} [FloatOps F] (main_arg0 : FVec F S1024x100000 .f32) (main_arg1 : IVec S1024x2 32) (main_arg2 : IVec S11 32) : IVec S1024x11 1 :=
  let main_v0 : IVec S1024x1 32 := (extractStridedSlice S1024x1 ![0, 0] · slices_S1024x2_S1024x1_0_0) main_arg1
  let main_v1 : IVec S1024x1 32 := (extractStridedSlice S1024x1 ![0, 1] · slices_S1024x2_S1024x1_0_1) main_arg1
  let main_v2 : IVec S11 32 := iotaInDim S11 32 0
  let main_v3 : IVec S11 32 := addi main_arg2 main_v2
  let main_v4 : IVec S1x11 32 := broadcastInDim S1x11 ![1] bcast_S11_S1x11_1 main_v3
  let main_v5 : IVec S1024x11 32 := broadcastInDim S1024x11 ![0, 1] bcast_S1x11_S1024x11_0_1 main_v4
  let main_v6 : IVec S1024x11 32 := broadcastInDim S1024x11 ![0, 1] bcast_S1024x1_S1024x11_0_1 main_v1
  let main_v7 : IVec S1024x11 32 := addi main_v5 main_v6
  let main_c : IVec S_ 32 := constantI S_ 32 0#32
  let main_v8 : IVec S1024x11 32 := broadcastInDim S1024x11 ![] bcast_S_S1024x11 main_c
  let main_v9 : IVec S1024x11 1 := cmpi .sge main_v7 main_v8
  let main_c_0 : IVec S_ 32 := constantI S_ 32 99968#32
  let main_v10 : IVec S1024x11 32 := broadcastInDim S1024x11 ![] bcast_S_S1024x11 main_c_0
  let main_v11 : IVec S1024x11 1 := cmpi .slt main_v7 main_v10
  let main_v12 : IVec S1024x11 1 := andi main_v9 main_v11
  let main_c_1 : IVec S_ 32 := constantI S_ 32 0#32
  let main_v13 : IVec S1024x1 32 := broadcastInDim S1024x1 ![] bcast_S_S1024x1 main_c_1
  let main_v14 : IVec S1024x1 1 := cmpi .sge main_v0 main_v13
  let main_c_2 : IVec S_ 32 := constantI S_ 32 11#32
  let main_v15 : IVec S1024x1 32 := broadcastInDim S1024x1 ![] bcast_S_S1024x1 main_c_2
  let main_v16 : IVec S1024x1 1 := cmpi .slt main_v0 main_v15
  let main_v17 : IVec S1024x1 1 := andi main_v14 main_v16
  let main_v18 : IVec S1x11 32 := broadcastInDim S1x11 ![1] bcast_S11_S1x11_1 main_v2
  let main_v19 : IVec S1024x11 32 := broadcastInDim S1024x11 ![0, 1] bcast_S1024x1_S1024x11_0_1 main_v0
  fn_part1 (F := F) main_v12 main_v17 main_v18 main_v19
-- ==== Pre_actions_in_range_and_rows_finite.lean ====
abbrev S1024x100000 : Shape := ⟨2, ![1024, 100000]⟩
abbrev S1024x2 : Shape := ⟨2, ![1024, 2]⟩
abbrev S11 : Shape := ⟨1, ![11]⟩
abbrev S_ : Shape := ⟨0, ![]⟩
abbrev S1024 : Shape := ⟨1, ![1024]⟩
abbrev S1024x1 : Shape := ⟨2, ![1024, 1]⟩
abbrev S1x11 : Shape := ⟨2, ![1, 11]⟩
abbrev S1024x11 : Shape := ⟨2, ![1024, 11]⟩

class Facts : Prop where
  reducesTo_S1024x100000_S1024_d1 : S1024x100000.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  slices_S1024x2_S1024x1_0_0 : S1024x2.Slices ![0, 0] S1024x1
  slices_S1024x2_S1024x1_0_1 : S1024x2.Slices ![0, 1] S1024x1
  bcast_S11_S1x11_1 : S11.BroadcastsInDim S1x11 (![1] : Fin 1 → Fin S1x11.rank)
  bcast_S1x11_S1024x11_0_1 : S1x11.BroadcastsInDim S1024x11 (![0, 1] : Fin 2 → Fin S1024x11.rank)
  bcast_S1024x1_S1024x11_0_1 : S1024x1.BroadcastsInDim S1024x11 (![0, 1] : Fin 2 → Fin S1024x11.rank)
  bcast_S_S1024x11 : S_.BroadcastsInDim S1024x11 (![] : Fin 0 → Fin S1024x11.rank)

variable [Facts]

def fn_part1 {F : FTy → Type} [FloatOps F] (main_v6 : IVec S1024x1 1) (main_v7 : IVec S1024x1 32) (main_v9 : IVec S11 32) (main_v16 : IVec S1024x11 1) (main_v18 : IVec S1024x11 1) : IVec S1024x11 1 :=
  let main_v19 : IVec S1024x11 1 := andi main_v16 main_v18
  let main_c_3 : IVec S_ 32 := constantI S_ 32 0#32
  let main_v20 : IVec S1024x1 32 := broadcastInDim S1024x1 ![] bcast_S_S1024x1 main_c_3
  let main_v21 : IVec S1024x1 1 := cmpi .sge main_v7 main_v20
  let main_c_4 : IVec S_ 32 := constantI S_ 32 11#32
  let main_v22 : IVec S1024x1 32 := broadcastInDim S1024x1 ![] bcast_S_S1024x1 main_c_4
  let main_v23 : IVec S1024x1 1 := cmpi .slt main_v7 main_v22
  let main_v24 : IVec S1024x1 1 := andi main_v21 main_v23
  let main_v25 : IVec S1x11 32 := broadcastInDim S1x11 ![1] bcast_S11_S1x11_1 main_v9
  let main_v26 : IVec S1024x11 32 := broadcastInDim S1024x11 ![0, 1] bcast_S1024x1_S1024x11_0_1 main_v7
  let main_v27 : IVec S1024x11 32 := broadcastInDim S1024x11 ![0, 1] bcast_S1x11_S1024x11_0_1 main_v25
  let main_v28 : IVec S1024x11 1 := cmpi .ne main_v26 main_v27
  let main_v29 : IVec S1024x11 1 := ori main_v28 main_v19
  let main_v30 : IVec S1024x11 1 := broadcastInDim S1024x11 ![0, 1] bcast_S1024x1_S1024x11_0_1 main_v24
  let main_v31 : IVec S1024x11 1 := andi main_v30 main_v29
  let main_v32 : IVec S1024x11 1 := broadcastInDim S1024x11 ![0, 1] bcast_S1024x1_S1024x11_0_1 main_v6
  let main_v33 : IVec S1024x11 1 := andi main_v31 main_v32
  main_v33

def fn {F : FTy → Type} [FloatOps F] (main_arg0 : FVec F S1024x100000 .f32) (main_arg1 : IVec S1024x2 32) (main_arg2 : IVec S11 32) : IVec S1024x11 1 :=
  let main_cst : FVec F S_ .f32 := constant S_ .f32 0xFF800000#32
  let main_v0 : FVec F S1024 .f32 := (fun x v => Host.reduce FloatOps.maximumf x v reducesTo_S1024x100000_S1024_d1 h_S_) main_arg0 main_cst
  let main_v1 : FVec F S1024x1 .f32 := broadcastInDim S1024x1 ![0] bcast_S1024_S1024x1_0 main_v0
  let main_cst_0 : FVec F S_ .f32 := constant S_ .f32 0xFF800000#32
  let main_v2 : FVec F S1024x1 .f32 := broadcastInDim S1024x1 ![] bcast_S_S1024x1 main_cst_0
  let main_v3 : IVec S1024x1 1 := cmpf .ogt main_v1 main_v2
  let main_cst_1 : FVec F S_ .f32 := constant S_ .f32 0x7F800000#32
  let main_v4 : FVec F S1024x1 .f32 := broadcastInDim S1024x1 ![] bcast_S_S1024x1 main_cst_1
  let main_v5 : IVec S1024x1 1 := cmpf .olt main_v1 main_v4
  let main_v6 : IVec S1024x1 1 := andi main_v3 main_v5
  let main_v7 : IVec S1024x1 32 := (extractStridedSlice S1024x1 ![0, 0] · slices_S1024x2_S1024x1_0_0) main_arg1
  let main_v8 : IVec S1024x1 32 := (extractStridedSlice S1024x1 ![0, 1] · slices_S1024x2_S1024x1_0_1) main_arg1
  let main_v9 : IVec S11 32 := iotaInDim S11 32 0
  let main_v10 : IVec S11 32 := addi main_arg2 main_v9
  let main_v11 : IVec S1x11 32 := broadcastInDim S1x11 ![1] bcast_S11_S1x11_1 main_v10
  let main_v12 : IVec S1024x11 32 := broadcastInDim S1024x11 ![0, 1] bcast_S1x11_S1024x11_0_1 main_v11
  let main_v13 : IVec S1024x11 32 := broadcastInDim S1024x11 ![0, 1] bcast_S1024x1_S1024x11_0_1 main_v8
  let main_v14 : IVec S1024x11 32 := addi main_v12 main_v13
  let main_c : IVec S_ 32 := constantI S_ 32 0#32
  let main_v15 : IVec S1024x11 32 := broadcastInDim S1024x11 ![] bcast_S_S1024x11 main_c
  let main_v16 : IVec S1024x11 1 := cmpi .sge main_v14 main_v15
  let main_c_2 : IVec S_ 32 := constantI S_ 32 99968#32
  let main_v17 : IVec S1024x11 32 := broadcastInDim S1024x11 ![] bcast_S_S1024x11 main_c_2
  let main_v18 : IVec S1024x11 1 := cmpi .slt main_v14 main_v17
  fn_part1 (F := F) main_v6 main_v7 main_v9 main_v16 main_v18
-- ==== Kernel.lean ====
abbrev S1024x100000 : Shape := ⟨2, ![1024, 100000]⟩
abbrev S1024x2 : Shape := ⟨2, ![1024, 2]⟩
abbrev S11 : Shape := ⟨1, ![11]⟩
abbrev S1024x1 : Shape := ⟨2, ![1024, 1]⟩
abbrev S16x100000 : Shape := ⟨2, ![16, 100000]⟩
abbrev S16x1 : Shape := ⟨2, ![16, 1]⟩
abbrev S16 : Shape := ⟨1, ![16]⟩
abbrev S16x1024 : Shape := ⟨2, ![16, 1024]⟩
abbrev S16x672 : Shape := ⟨2, ![16, 672]⟩
abbrev S1x1 : Shape := ⟨2, ![1, 1]⟩
abbrev S1 : Shape := ⟨1, ![1]⟩
abbrev S1x128 : Shape := ⟨2, ![1, 128]⟩
abbrev S1024 : Shape := ⟨1, ![1024]⟩

abbrev nBuf : Space → Nat
  | .hbm => 8
  | .vmem => 8
  | .smem => 2
  | _ => 0

abbrev bufTy : (tb : Table) → Fin (tcTables nBuf tb) → BufTy
  | .hbm, ⟨0, _⟩ => ⟨S1024x100000, .f32⟩
  | .hbm, ⟨1, _⟩ => ⟨S1024x2, .i32⟩
  | .hbm, ⟨2, _⟩ => ⟨S11, .i32⟩
  | .hbm, ⟨3, _⟩ => ⟨S1024x100000, .f32⟩
  | .hbm, ⟨4, _⟩ => ⟨S1024x1, .f32⟩
  | .hbm, ⟨5, _⟩ => ⟨S1024x1, .f32⟩
  | .hbm, ⟨6, _⟩ => ⟨S1024, .f32⟩
  | .hbm, ⟨7, _⟩ => ⟨S1024, .f32⟩
  | .local _ .vmem, ⟨0, _⟩ => ⟨S16x100000, .f32⟩
  | .local _ .vmem, ⟨1, _⟩ => ⟨S16x100000, .f32⟩
  | .local _ .vmem, ⟨2, _⟩ => ⟨S16x100000, .f32⟩
  | .local _ .vmem, ⟨3, _⟩ => ⟨S16x100000, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .smem, ⟨0, _⟩ => ⟨S1024x2, .i32⟩
  | .local _ .smem, ⟨1, _⟩ => ⟨S11, .i32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c97_i32 : BitVec 32 := 97#32
  let v5 : BitVec 32 := Scalar.addi c0_i32 c97_i32
  let c1_i32 : BitVec 32 := 1#32
  ⟨c0_i32, v5, c1_i32⟩
def k0_off1 (k0_t1 : Fin k0_t1_loop.trips) : Fin 2 → Nat :=
  let c0_256 : Index := 0#32
  let c0_i32 : BitVec 32 := 0#32
  let c1_i32 : BitVec 32 := 1#32
  let arg7 : BitVec 32 := Scf.iv c0_i32 c1_i32 k0_t1
  let c1024_i32 : BitVec 32 := 1024#32
  let v703 : BitVec 32 := Scalar.muli arg7 c1024_i32
  let v704 : Index := Scalar.indexCast v703
  ![0, v704.toNat]
def k0_off2 (i : grid0.Coords) : Fin 2 → Nat :=
  let arg0 : BitVec 32 := BitVec.ofNat 32 (i 0).val
  let c16_i32 : BitVec 32 := 16#32
  let v31 : BitVec 32 := Scalar.muli arg0 c16_i32
  let c0_i32_15 : BitVec 32 := 0#32
  let v32 : BitVec 32 := Scalar.addi v31 c0_i32_15
  let v33 : Index := Scalar.indexCast v32
  let c0_16 : Index := 0#32
  ![v33.toNat, 0]
def k0_off3 (i : grid0.Coords) : Fin 2 → Nat :=
  let arg0 : BitVec 32 := BitVec.ofNat 32 (i 0).val
  let c16_i32 : BitVec 32 := 16#32
  let v31 : BitVec 32 := Scalar.muli arg0 c16_i32
  let c0_i32_15 : BitVec 32 := 0#32
  let v32 : BitVec 32 := Scalar.addi v31 c0_i32_15
  let v35 : Index := Scalar.indexCast v32
  let c1 : Index := 1#32
  ![v35.toNat, 1]
def k0_off4 (v34 : BitVec 32) : Fin 1 → Nat :=
  let v37 : Index := Scalar.indexCast v34
  ![v37.toNat]

def k0_chk1 (v34 : BitVec 32) : Prop :=
  (∀ a, (k0_off4 v34) a + S1.size a ≤ S11.size a)
theorem k0_off4_inb : ∀ (v34 : BitVec 32) (k0_hw1 : k0_chk1 v34), ∀ a, (k0_off4 v34) a + S1.size a ≤ S11.size a := fun v34 k0_hw1 => k0_hw1

def k0_mult1 (v34 : BitVec 32) (v36 : BitVec 32) (v38 : BitVec 32) : BitVec 32 :=
  let v39 : BitVec 32 := Scalar.addi v38 v34
  let v40 : BitVec 32 := Scalar.addi v39 v36
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c128_i32 : BitVec 32 := 128#32
  let c0_i32_19 : BitVec 32 := 0#32
  let v47 : BitVec 1 := Scalar.cmpi .sgt c128_i32 c0_i32_19
  let v48 : BitVec 32 := Scalar.extui v47
  let c0_i32_20 : BitVec 32 := 0#32
  let v49 : BitVec 1 := Scalar.cmpi .slt c128_i32 c0_i32_20
  let v50 : BitVec 32 := Scalar.extui v49
  let v51 : BitVec 32 := Scalar.subi v48 v50
  let v52 : BitVec 1 := Scalar.cmpi .ne v46 v51
  let v53 : BitVec 32 := Scalar.remsi v40 c128_i32
  let c0_i32_21 : BitVec 32 := 0#32
  let v54 : BitVec 1 := Scalar.cmpi .ne v53 c0_i32_21
  let v55 : BitVec 1 := Scalar.andi v52 v54
  let v41 : BitVec 32 := Scalar.divsi v40 c128_i32
  let c1_i32_22 : BitVec 32 := 1#32
  let v56 : BitVec 32 := Scalar.subi v41 c1_i32_22
  let v57 : BitVec 32 := Scalar.select v55 v56 v41
  let c128_i32_23 : BitVec 32 := 128#32
  let v58 : BitVec 32 := Scalar.muli v57 c128_i32_23
  v58

def k0_off5 (v34 : BitVec 32) (v36 : BitVec 32) (v38 : BitVec 32) : Fin 2 → Nat :=
  let c0_24 : Index := 0#32
  let v39 : BitVec 32 := Scalar.addi v38 v34
  let v40 : BitVec 32 := Scalar.addi v39 v36
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c128_i32 : BitVec 32 := 128#32
  let c0_i32_19 : BitVec 32 := 0#32
  let v47 : BitVec 1 := Scalar.cmpi .sgt c128_i32 c0_i32_19
  let v48 : BitVec 32 := Scalar.extui v47
  let c0_i32_20 : BitVec 32 := 0#32
  let v49 : BitVec 1 := Scalar.cmpi .slt c128_i32 c0_i32_20
  let v50 : BitVec 32 := Scalar.extui v49
  let v51 : BitVec 32 := Scalar.subi v48 v50
  let v52 : BitVec 1 := Scalar.cmpi .ne v46 v51
  let v53 : BitVec 32 := Scalar.remsi v40 c128_i32
  let c0_i32_21 : BitVec 32 := 0#32
  let v54 : BitVec 1 := Scalar.cmpi .ne v53 c0_i32_21
  let v55 : BitVec 1 := Scalar.andi v52 v54
  let v41 : BitVec 32 := Scalar.divsi v40 c128_i32
  let c1_i32_22 : BitVec 32 := 1#32
  let v56 : BitVec 32 := Scalar.subi v41 c1_i32_22
  let v57 : BitVec 32 := Scalar.select v55 v56 v41
  let c128_i32_23 : BitVec 32 := 128#32
  let v58 : BitVec 32 := Scalar.muli v57 c128_i32_23
  let v59 : BitVec 32 := v58
  let v61 : Index := Scalar.indexCast v59
  ![0, v61.toNat]

def k0_chk2 (v34 : BitVec 32) (v36 : BitVec 32) (v38 : BitVec 32) : Prop :=
  (128 ∣ (k0_mult1 v34 v36 v38).toNat) ∧
  (∀ a, (k0_off5 v34 v36 v38) a + S1x128.size a ≤ S16x100000.size a)
theorem k0_mult1_dvd : ∀ (v34 : BitVec 32) (v36 : BitVec 32) (v38 : BitVec 32) (k0_hw2 : k0_chk2 v34 v36 v38), 128 ∣ (k0_mult1 v34 v36 v38).toNat := fun v34 v36 v38 k0_hw2 => k0_hw2.1
theorem k0_off5_inb : ∀ (v34 : BitVec 32) (v36 : BitVec 32) (v38 : BitVec 32) (k0_hw2 : k0_chk2 v34 v36 v38), ∀ a, (k0_off5 v34 v36 v38) a + S1x128.size a ≤ S16x100000.size a := fun v34 v36 v38 k0_hw2 => k0_hw2.2

def k0_off6 (i : grid0.Coords) : Fin 2 → Nat :=
  let arg0 : BitVec 32 := BitVec.ofNat 32 (i 0).val
  let c16_i32_29 : BitVec 32 := 16#32
  let v73 : BitVec 32 := Scalar.muli arg0 c16_i32_29
  let c1_i32_30 : BitVec 32 := 1#32
  let v74 : BitVec 32 := Scalar.addi v73 c1_i32_30
  let v75 : Index := Scalar.indexCast v74
  let c0_31 : Index := 0#32
  ![v75.toNat, 0]
def k0_off7 (i : grid0.Coords) : Fin 2 → Nat :=
  let arg0 : BitVec 32 := BitVec.ofNat 32 (i 0).val
  let c16_i32_29 : BitVec 32 := 16#32
  let v73 : BitVec 32 := Scalar.muli arg0 c16_i32_29
  let c1_i32_30 : BitVec 32 := 1#32
  let v74 : BitVec 32 := Scalar.addi v73 c1_i32_30
  let v77 : Index := Scalar.indexCast v74
  let c1_32 : Index := 1#32
  ![v77.toNat, 1]
def k0_off8 (v76 : BitVec 32) : Fin 1 → Nat :=
  let v79 : Index := Scalar.indexCast v76
  ![v79.toNat]

def k0_chk3 (v76 : BitVec 32) : Prop :=
  (∀ a, (k0_off8 v76) a + S1.size a ≤ S11.size a)
theorem k0_off8_inb : ∀ (v76 : BitVec 32) (k0_hw3 : k0_chk3 v76), ∀ a, (k0_off8 v76) a + S1.size a ≤ S11.size a := fun v76 k0_hw3 => k0_hw3

def k0_mult2 (v76 : BitVec 32) (v78 : BitVec 32) (v80 : BitVec 32) : BitVec 32 :=
  let v81 : BitVec 32 := Scalar.addi v80 v76
  let v82 : BitVec 32 := Scalar.addi v81 v78
  let c0_i32_34 : BitVec 32 := 0#32
  let v84 : BitVec 1 := Scalar.cmpi .sgt v82 c0_i32_34
  let v85 : BitVec 32 := Scalar.extui v84
  let c0_i32_35 : BitVec 32 := 0#32
  let v86 : BitVec 1 := Scalar.cmpi .slt v82 c0_i32_35
  let v87 : BitVec 32 := Scalar.extui v86
  let v88 : BitVec 32 := Scalar.subi v85 v87
  let c128_i32_33 : BitVec 32 := 128#32
  let c0_i32_36 : BitVec 32 := 0#32
  let v89 : BitVec 1 := Scalar.cmpi .sgt c128_i32_33 c0_i32_36
  let v90 : BitVec 32 := Scalar.extui v89
  let c0_i32_37 : BitVec 32 := 0#32
  let v91 : BitVec 1 := Scalar.cmpi .slt c128_i32_33 c0_i32_37
  let v92 : BitVec 32 := Scalar.extui v91
  let v93 : BitVec 32 := Scalar.subi v90 v92
  let v94 : BitVec 1 := Scalar.cmpi .ne v88 v93
  let v95 : BitVec 32 := Scalar.remsi v82 c128_i32_33
  let c0_i32_38 : BitVec 32 := 0#32
  let v96 : BitVec 1 := Scalar.cmpi .ne v95 c0_i32_38
  let v97 : BitVec 1 := Scalar.andi v94 v96
  let v83 : BitVec 32 := Scalar.divsi v82 c128_i32_33
  let c1_i32_39 : BitVec 32 := 1#32
  let v98 : BitVec 32 := Scalar.subi v83 c1_i32_39
  let v99 : BitVec 32 := Scalar.select v97 v98 v83
  let c128_i32_40 : BitVec 32 := 128#32
  let v100 : BitVec 32 := Scalar.muli v99 c128_i32_40
  v100

def k0_off9 (v76 : BitVec 32) (v78 : BitVec 32) (v80 : BitVec 32) : Fin 2 → Nat :=
  let c1_41 : Index := 1#32
  let v81 : BitVec 32 := Scalar.addi v80 v76
  let v82 : BitVec 32 := Scalar.addi v81 v78
  let c0_i32_34 : BitVec 32 := 0#32
  let v84 : BitVec 1 := Scalar.cmpi .sgt v82 c0_i32_34
  let v85 : BitVec 32 := Scalar.extui v84
  let c0_i32_35 : BitVec 32 := 0#32
  let v86 : BitVec 1 := Scalar.cmpi .slt v82 c0_i32_35
  let v87 : BitVec 32 := Scalar.extui v86
  let v88 : BitVec 32 := Scalar.subi v85 v87
  let c128_i32_33 : BitVec 32 := 128#32
  let c0_i32_36 : BitVec 32 := 0#32
  let v89 : BitVec 1 := Scalar.cmpi .sgt c128_i32_33 c0_i32_36
  let v90 : BitVec 32 := Scalar.extui v89
  let c0_i32_37 : BitVec 32 := 0#32
  let v91 : BitVec 1 := Scalar.cmpi .slt c128_i32_33 c0_i32_37
  let v92 : BitVec 32 := Scalar.extui v91
  let v93 : BitVec 32 := Scalar.subi v90 v92
  let v94 : BitVec 1 := Scalar.cmpi .ne v88 v93
  let v95 : BitVec 32 := Scalar.remsi v82 c128_i32_33
  let c0_i32_38 : BitVec 32 := 0#32
  let v96 : BitVec 1 := Scalar.cmpi .ne v95 c0_i32_38
  let v97 : BitVec 1 := Scalar.andi v94 v96
  let v83 : BitVec 32 := Scalar.divsi v82 c128_i32_33
  let c1_i32_39 : BitVec 32 := 1#32
  let v98 : BitVec 32 := Scalar.subi v83 c1_i32_39
  let v99 : BitVec 32 := Scalar.select v97 v98 v83
  let c128_i32_40 : BitVec 32 := 128#32
  let v100 : BitVec 32 := Scalar.muli v99 c128_i32_40
  let v101 : BitVec 32 := v100
  let v103 : Index := Scalar.indexCast v101
  ![1, v103.toNat]

def k0_chk4 (v76 : BitVec 32) (v78 : BitVec 32) (v80 : BitVec 32) : Prop :=
  (128 ∣ (k0_mult2 v76 v78 v80).toNat) ∧
  (∀ a, (k0_off9 v76 v78 v80) a + S1x128.size a ≤ S16x100000.size a)
theorem k0_mult2_dvd : ∀ (v76 : BitVec 32) (v78 : BitVec 32) (v80 : BitVec 32) (k0_hw4 : k0_chk4 v76 v78 v80), 128 ∣ (k0_mult2 v76 v78 v80).toNat := fun v76 v78 v80 k0_hw4 => k0_hw4.1
theorem k0_off9_inb : ∀ (v76 : BitVec 32) (v78 : BitVec 32) (v80 : BitVec 32) (k0_hw4 : k0_chk4 v76 v78 v80), ∀ a, (k0_off9 v76 v78 v80) a + S1x128.size a ≤ S16x100000.size a := fun v76 v78 v80 k0_hw4 => k0_hw4.2

def k0_off10 (i : grid0.Coords) : Fin 2 → Nat :=
  let arg0 : BitVec 32 := BitVec.ofNat 32 (i 0).val
  let c16_i32_46 : BitVec 32 := 16#32
  let v115 : BitVec 32 := Scalar.muli arg0 c16_i32_46
  let c2_i32 : BitVec 32 := 2#32
  let v116 : BitVec 32 := Scalar.addi v115 c2_i32
  let v117 : Index := Scalar.indexCast v116
  let c0_47 : Index := 0#32
  ![v117.toNat, 0]
def k0_off11 (i : grid0.Coords) : Fin 2 → Nat :=
  let arg0 : BitVec 32 := BitVec.ofNat 32 (i 0).val
  let c16_i32_46 : BitVec 32 := 16#32
  let v115 : BitVec 32 := Scalar.muli arg0 c16_i32_46
  let c2_i32 : BitVec 32 := 2#32
  let v116 : BitVec 32 := Scalar.addi v115 c2_i32
  let v119 : Index := Scalar.indexCast v116
  let c1_48 : Index := 1#32
  ![v119.toNat, 1]
def k0_off12 (v118 : BitVec 32) : Fin 1 → Nat :=
  let v121 : Index := Scalar.indexCast v118
  ![v121.toNat]

def k0_chk5 (v118 : BitVec 32) : Prop :=
  (∀ a, (k0_off12 v118) a + S1.size a ≤ S11.size a)
theorem k0_off12_inb : ∀ (v118 : BitVec 32) (k0_hw5 : k0_chk5 v118), ∀ a, (k0_off12 v118) a + S1.size a ≤ S11.size a := fun v118 k0_hw5 => k0_hw5

def k0_mult3 (v118 : BitVec 32) (v120 : BitVec 32) (v122 : BitVec 32) : BitVec 32 :=
  let v123 : BitVec 32 := Scalar.addi v122 v118
  let v124 : BitVec 32 := Scalar.addi v123 v120
  let c0_i32_50 : BitVec 32 := 0#32
  let v126 : BitVec 1 := Scalar.cmpi .sgt v124 c0_i32_50
  let v127 : BitVec 32 := Scalar.extui v126
  let c0_i32_51 : BitVec 32 := 0#32
  let v128 : BitVec 1 := Scalar.cmpi .slt v124 c0_i32_51
  let v129 : BitVec 32 := Scalar.extui v128
  let v130 : BitVec 32 := Scalar.subi v127 v129
  let c128_i32_49 : BitVec 32 := 128#32
  let c0_i32_52 : BitVec 32 := 0#32
  let v131 : BitVec 1 := Scalar.cmpi .sgt c128_i32_49 c0_i32_52
  let v132 : BitVec 32 := Scalar.extui v131
  let c0_i32_53 : BitVec 32 := 0#32
  let v133 : BitVec 1 := Scalar.cmpi .slt c128_i32_49 c0_i32_53
  let v134 : BitVec 32 := Scalar.extui v133
  let v135 : BitVec 32 := Scalar.subi v132 v134
  let v136 : BitVec 1 := Scalar.cmpi .ne v130 v135
  let v137 : BitVec 32 := Scalar.remsi v124 c128_i32_49
  let c0_i32_54 : BitVec 32 := 0#32
  let v138 : BitVec 1 := Scalar.cmpi .ne v137 c0_i32_54
  let v139 : BitVec 1 := Scalar.andi v136 v138
  let v125 : BitVec 32 := Scalar.divsi v124 c128_i32_49
  let c1_i32_55 : BitVec 32 := 1#32
  let v140 : BitVec 32 := Scalar.subi v125 c1_i32_55
  let v141 : BitVec 32 := Scalar.select v139 v140 v125
  let c128_i32_56 : BitVec 32 := 128#32
  let v142 : BitVec 32 := Scalar.muli v141 c128_i32_56
  v142

def k0_off13 (v118 : BitVec 32) (v120 : BitVec 32) (v122 : BitVec 32) : Fin 2 → Nat :=
  let c2 : Index := 2#32
  let v123 : BitVec 32 := Scalar.addi v122 v118
  let v124 : BitVec 32 := Scalar.addi v123 v120
  let c0_i32_50 : BitVec 32 := 0#32
  let v126 : BitVec 1 := Scalar.cmpi .sgt v124 c0_i32_50
  let v127 : BitVec 32 := Scalar.extui v126
  let c0_i32_51 : BitVec 32 := 0#32
  let v128 : BitVec 1 := Scalar.cmpi .slt v124 c0_i32_51
  let v129 : BitVec 32 := Scalar.extui v128
  let v130 : BitVec 32 := Scalar.subi v127 v129
  let c128_i32_49 : BitVec 32 := 128#32
  let c0_i32_52 : BitVec 32 := 0#32
  let v131 : BitVec 1 := Scalar.cmpi .sgt c128_i32_49 c0_i32_52
  let v132 : BitVec 32 := Scalar.extui v131
  let c0_i32_53 : BitVec 32 := 0#32
  let v133 : BitVec 1 := Scalar.cmpi .slt c128_i32_49 c0_i32_53
  let v134 : BitVec 32 := Scalar.extui v133
  let v135 : BitVec 32 := Scalar.subi v132 v134
  let v136 : BitVec 1 := Scalar.cmpi .ne v130 v135
  let v137 : BitVec 32 := Scalar.remsi v124 c128_i32_49
  let c0_i32_54 : BitVec 32 := 0#32
  let v138 : BitVec 1 := Scalar.cmpi .ne v137 c0_i32_54
  let v139 : BitVec 1 := Scalar.andi v136 v138
  let v125 : BitVec 32 := Scalar.divsi v124 c128_i32_49
  let c1_i32_55 : BitVec 32 := 1#32
  let v140 : BitVec 32 := Scalar.subi v125 c1_i32_55
  let v141 : BitVec 32 := Scalar.select v139 v140 v125
  let c128_i32_56 : BitVec 32 := 128#32
  let v142 : BitVec 32 := Scalar.muli v141 c128_i32_56
  let v143 : BitVec 32 := v142
  let v145 : Index := Scalar.indexCast v143
  ![2, v145.toNat]

def k0_chk6 (v118 : BitVec 32) (v120 : BitVec 32) (v122 : BitVec 32) : Prop :=
  (128 ∣ (k0_mult3 v118 v120 v122).toNat) ∧
  (∀ a, (k0_off13 v118 v120 v122) a + S1x128.size a ≤ S16x100000.size a)
theorem k0_mult3_dvd : ∀ (v118 : BitVec 32) (v120 : BitVec 32) (v122 : BitVec 32) (k0_hw6 : k0_chk6 v118 v120 v122), 128 ∣ (k0_mult3 v118 v120 v122).toNat := fun v118 v120 v122 k0_hw6 => k0_hw6.1
theorem k0_off13_inb : ∀ (v118 : BitVec 32) (v120 : BitVec 32) (v122 : BitVec 32) (k0_hw6 : k0_chk6 v118 v120 v122), ∀ a, (k0_off13 v118 v120 v122) a + S1x128.size a ≤ S16x100000.size a := fun v118 v120 v122 k0_hw6 => k0_hw6.2

def k0_off14 (i : grid0.Coords) : Fin 2 → Nat :=
  let arg0 : BitVec 32 := BitVec.ofNat 32 (i 0).val
  let c16_i32_61 : BitVec 32 := 16#32
  let v157 : BitVec 32 := Scalar.muli arg0 c16_i32_61
  let c3_i32 : BitVec 32 := 3#32
  let v158 : BitVec 32 := Scalar.addi v157 c3_i32
  let v159 : Index := Scalar.indexCast v158
  let c0_62 : Index := 0#32
  ![v159.toNat, 0]
def k0_off15 (i : grid0.Coords) : Fin 2 → Nat :=
  let arg0 : BitVec 32 := BitVec.ofNat 32 (i 0).val
  let c16_i32_61 : BitVec 32 := 16#32
  let v157 : BitVec 32 := Scalar.muli arg0 c16_i32_61
  let c3_i32 : BitVec 32 := 3#32
  let v158 : BitVec 32 := Scalar.addi v157 c3_i32
  let v161 : Index := Scalar.indexCast v158
  let c1_63 : Index := 1#32
  ![v161.toNat, 1]
def k0_off16 (v160 : BitVec 32) : Fin 1 → Nat :=
  let v163 : Index := Scalar.indexCast v160
  ![v163.toNat]

def k0_chk7 (v160 : BitVec 32) : Prop :=
  (∀ a, (k0_off16 v160) a + S1.size a ≤ S11.size a)
theorem k0_off16_inb : ∀ (v160 : BitVec 32) (k0_hw7 : k0_chk7 v160), ∀ a, (k0_off16 v160) a + S1.size a ≤ S11.size a := fun v160 k0_hw7 => k0_hw7

def k0_mult4 (v160 : BitVec 32) (v162 : BitVec 32) (v164 : BitVec 32) : BitVec 32 :=
  let v165 : BitVec 32 := Scalar.addi v164 v160
  let v166 : BitVec 32 := Scalar.addi v165 v162
  let c0_i32_65 : BitVec 32 := 0#32
  let v168 : BitVec 1 := Scalar.cmpi .sgt v166 c0_i32_65
  let v169 : BitVec 32 := Scalar.extui v168
  let c0_i32_66 : BitVec 32 := 0#32
  let v170 : BitVec 1 := Scalar.cmpi .slt v166 c0_i32_66
  let v171 : BitVec 32 := Scalar.extui v170
  let v172 : BitVec 32 := Scalar.subi v169 v171
  let c128_i32_64 : BitVec 32 := 128#32
  let c0_i32_67 : BitVec 32 := 0#32
  let v173 : BitVec 1 := Scalar.cmpi .sgt c128_i32_64 c0_i32_67
  let v174 : BitVec 32 := Scalar.extui v173
  let c0_i32_68 : BitVec 32 := 0#32
  let v175 : BitVec 1 := Scalar.cmpi .slt c128_i32_64 c0_i32_68
  let v176 : BitVec 32 := Scalar.extui v175
  let v177 : BitVec 32 := Scalar.subi v174 v176
  let v178 : BitVec 1 := Scalar.cmpi .ne v172 v177
  let v179 : BitVec 32 := Scalar.remsi v166 c128_i32_64
  let c0_i32_69 : BitVec 32 := 0#32
  let v180 : BitVec 1 := Scalar.cmpi .ne v179 c0_i32_69
  let v181 : BitVec 1 := Scalar.andi v178 v180
  let v167 : BitVec 32 := Scalar.divsi v166 c128_i32_64
  let c1_i32_70 : BitVec 32 := 1#32
  let v182 : BitVec 32 := Scalar.subi v167 c1_i32_70
  let v183 : BitVec 32 := Scalar.select v181 v182 v167
  let c128_i32_71 : BitVec 32 := 128#32
  let v184 : BitVec 32 := Scalar.muli v183 c128_i32_71
  v184

def k0_off17 (v160 : BitVec 32) (v162 : BitVec 32) (v164 : BitVec 32) : Fin 2 → Nat :=
  let c3 : Index := 3#32
  let v165 : BitVec 32 := Scalar.addi v164 v160
  let v166 : BitVec 32 := Scalar.addi v165 v162
  let c0_i32_65 : BitVec 32 := 0#32
  let v168 : BitVec 1 := Scalar.cmpi .sgt v166 c0_i32_65
  let v169 : BitVec 32 := Scalar.extui v168
  let c0_i32_66 : BitVec 32 := 0#32
  let v170 : BitVec 1 := Scalar.cmpi .slt v166 c0_i32_66
  let v171 : BitVec 32 := Scalar.extui v170
  let v172 : BitVec 32 := Scalar.subi v169 v171
  let c128_i32_64 : BitVec 32 := 128#32
  let c0_i32_67 : BitVec 32 := 0#32
  let v173 : BitVec 1 := Scalar.cmpi .sgt c128_i32_64 c0_i32_67
  let v174 : BitVec 32 := Scalar.extui v173
  let c0_i32_68 : BitVec 32 := 0#32
  let v175 : BitVec 1 := Scalar.cmpi .slt c128_i32_64 c0_i32_68
  let v176 : BitVec 32 := Scalar.extui v175
  let v177 : BitVec 32 := Scalar.subi v174 v176
  let v178 : BitVec 1 := Scalar.cmpi .ne v172 v177
  let v179 : BitVec 32 := Scalar.remsi v166 c128_i32_64
  let c0_i32_69 : BitVec 32 := 0#32
  let v180 : BitVec 1 := Scalar.cmpi .ne v179 c0_i32_69
  let v181 : BitVec 1 := Scalar.andi v178 v180
  let v167 : BitVec 32 := Scalar.divsi v166 c128_i32_64
  let c1_i32_70 : BitVec 32 := 1#32
  let v182 : BitVec 32 := Scalar.subi v167 c1_i32_70
  let v183 : BitVec 32 := Scalar.select v181 v182 v167
  let c128_i32_71 : BitVec 32 := 128#32
  let v184 : BitVec 32 := Scalar.muli v183 c128_i32_71
  let v185 : BitVec 32 := v184
  let v187 : Index := Scalar.indexCast v185
  ![3, v187.toNat]

def k0_chk8 (v160 : BitVec 32) (v162 : BitVec 32) (v164 : BitVec 32) : Prop :=
  (128 ∣ (k0_mult4 v160 v162 v164).toNat) ∧
  (∀ a, (k0_off17 v160 v162 v164) a + S1x128.size a ≤ S16x100000.size a)
theorem k0_mult4_dvd : ∀ (v160 : BitVec 32) (v162 : BitVec 32) (v164 : BitVec 32) (k0_hw8 : k0_chk8 v160 v162 v164), 128 ∣ (k0_mult4 v160 v162 v164).toNat := fun v160 v162 v164 k0_hw8 => k0_hw8.1
theorem k0_off17_inb : ∀ (v160 : BitVec 32) (v162 : BitVec 32) (v164 : BitVec 32) (k0_hw8 : k0_chk8 v160 v162 v164), ∀ a, (k0_off17 v160 v162 v164) a + S1x128.size a ≤ S16x100000.size a := fun v160 v162 v164 k0_hw8 => k0_hw8.2

def k0_off18 (i : grid0.Coords) : Fin 2 → Nat :=
  let arg0 : BitVec 32 := BitVec.ofNat 32 (i 0).val
  let c16_i32_76 : BitVec 32 := 16#32
  let v199 : BitVec 32 := Scalar.muli arg0 c16_i32_76
  let c4_i32 : BitVec 32 := 4#32
  let v200 : BitVec 32 := Scalar.addi v199 c4_i32
  let v201 : Index := Scalar.indexCast v200
  let c0_77 : Index := 0#32
  ![v201.toNat, 0]
def k0_off19 (i : grid0.Coords) : Fin 2 → Nat :=
  let arg0 : BitVec 32 := BitVec.ofNat 32 (i 0).val
  let c16_i32_76 : BitVec 32 := 16#32
  let v199 : BitVec 32 := Scalar.muli arg0 c16_i32_76
  let c4_i32 : BitVec 32 := 4#32
  let v200 : BitVec 32 := Scalar.addi v199 c4_i32
  let v203 : Index := Scalar.indexCast v200
  let c1_78 : Index := 1#32
  ![v203.toNat, 1]
def k0_off20 (v202 : BitVec 32) : Fin 1 → Nat :=
  let v205 : Index := Scalar.indexCast v202
  ![v205.toNat]

def k0_chk9 (v202 : BitVec 32) : Prop :=
  (∀ a, (k0_off20 v202) a + S1.size a ≤ S11.size a)
theorem k0_off20_inb : ∀ (v202 : BitVec 32) (k0_hw9 : k0_chk9 v202), ∀ a, (k0_off20 v202) a + S1.size a ≤ S11.size a := fun v202 k0_hw9 => k0_hw9

def k0_mult5 (v202 : BitVec 32) (v204 : BitVec 32) (v206 : BitVec 32) : BitVec 32 :=
  let v207 : BitVec 32 := Scalar.addi v206 v202
  let v208 : BitVec 32 := Scalar.addi v207 v204
  let c0_i32_80 : BitVec 32 := 0#32
  let v210 : BitVec 1 := Scalar.cmpi .sgt v208 c0_i32_80
  let v211 : BitVec 32 := Scalar.extui v210
  let c0_i32_81 : BitVec 32 := 0#32
  let v212 : BitVec 1 := Scalar.cmpi .slt v208 c0_i32_81
  let v213 : BitVec 32 := Scalar.extui v212
  let v214 : BitVec 32 := Scalar.subi v211 v213
  let c128_i32_79 : BitVec 32 := 128#32
  let c0_i32_82 : BitVec 32 := 0#32
  let v215 : BitVec 1 := Scalar.cmpi .sgt c128_i32_79 c0_i32_82
  let v216 : BitVec 32 := Scalar.extui v215
  let c0_i32_83 : BitVec 32 := 0#32
  let v217 : BitVec 1 := Scalar.cmpi .slt c128_i32_79 c0_i32_83
  let v218 : BitVec 32 := Scalar.extui v217
  let v219 : BitVec 32 := Scalar.subi v216 v218
  let v220 : BitVec 1 := Scalar.cmpi .ne v214 v219
  let v221 : BitVec 32 := Scalar.remsi v208 c128_i32_79
  let c0_i32_84 : BitVec 32 := 0#32
  let v222 : BitVec 1 := Scalar.cmpi .ne v221 c0_i32_84
  let v223 : BitVec 1 := Scalar.andi v220 v222
  let v209 : BitVec 32 := Scalar.divsi v208 c128_i32_79
  let c1_i32_85 : BitVec 32 := 1#32
  let v224 : BitVec 32 := Scalar.subi v209 c1_i32_85
  let v225 : BitVec 32 := Scalar.select v223 v224 v209
  let c128_i32_86 : BitVec 32 := 128#32
  let v226 : BitVec 32 := Scalar.muli v225 c128_i32_86
  v226

def k0_off21 (v202 : BitVec 32) (v204 : BitVec 32) (v206 : BitVec 32) : Fin 2 → Nat :=
  let c4 : Index := 4#32
  let v207 : BitVec 32 := Scalar.addi v206 v202
  let v208 : BitVec 32 := Scalar.addi v207 v204
  let c0_i32_80 : BitVec 32 := 0#32
  let v210 : BitVec 1 := Scalar.cmpi .sgt v208 c0_i32_80
  let v211 : BitVec 32 := Scalar.extui v210
  let c0_i32_81 : BitVec 32 := 0#32
  let v212 : BitVec 1 := Scalar.cmpi .slt v208 c0_i32_81
  let v213 : BitVec 32 := Scalar.extui v212
  let v214 : BitVec 32 := Scalar.subi v211 v213
  let c128_i32_79 : BitVec 32 := 128#32
  let c0_i32_82 : BitVec 32 := 0#32
  let v215 : BitVec 1 := Scalar.cmpi .sgt c128_i32_79 c0_i32_82
  let v216 : BitVec 32 := Scalar.extui v215
  let c0_i32_83 : BitVec 32 := 0#32
  let v217 : BitVec 1 := Scalar.cmpi .slt c128_i32_79 c0_i32_83
  let v218 : BitVec 32 := Scalar.extui v217
  let v219 : BitVec 32 := Scalar.subi v216 v218
  let v220 : BitVec 1 := Scalar.cmpi .ne v214 v219
  let v221 : BitVec 32 := Scalar.remsi v208 c128_i32_79
  let c0_i32_84 : BitVec 32 := 0#32
  let v222 : BitVec 1 := Scalar.cmpi .ne v221 c0_i32_84
  let v223 : BitVec 1 := Scalar.andi v220 v222
  let v209 : BitVec 32 := Scalar.divsi v208 c128_i32_79
  let c1_i32_85 : BitVec 32 := 1#32
  let v224 : BitVec 32 := Scalar.subi v209 c1_i32_85
  let v225 : BitVec 32 := Scalar.select v223 v224 v209
  let c128_i32_86 : BitVec 32 := 128#32
  let v226 : BitVec 32 := Scalar.muli v225 c128_i32_86
  let v227 : BitVec 32 := v226
  let v229 : Index := Scalar.indexCast v227
  ![4, v229.toNat]

def k0_chk10 (v202 : BitVec 32) (v204 : BitVec 32) (v206 : BitVec 32) : Prop :=
  (128 ∣ (k0_mult5 v202 v204 v206).toNat) ∧
  (∀ a, (k0_off21 v202 v204 v206) a + S1x128.size a ≤ S16x100000.size a)
theorem k0_mult5_dvd : ∀ (v202 : BitVec 32) (v204 : BitVec 32) (v206 : BitVec 32) (k0_hw10 : k0_chk10 v202 v204 v206), 128 ∣ (k0_mult5 v202 v204 v206).toNat := fun v202 v204 v206 k0_hw10 => k0_hw10.1
theorem k0_off21_inb : ∀ (v202 : BitVec 32) (v204 : BitVec 32) (v206 : BitVec 32) (k0_hw10 : k0_chk10 v202 v204 v206), ∀ a, (k0_off21 v202 v204 v206) a + S1x128.size a ≤ S16x100000.size a := fun v202 v204 v206 k0_hw10 => k0_hw10.2

def k0_off22 (i : grid0.Coords) : Fin 2 → Nat :=
  let arg0 : BitVec 32 := BitVec.ofNat 32 (i 0).val
  let c16_i32_91 : BitVec 32 := 16#32
  let v241 : BitVec 32 := Scalar.muli arg0 c16_i32_91
  let c5_i32 : BitVec 32 := 5#32
  let v242 : BitVec 32 := Scalar.addi v241 c5_i32
  let v243 : Index := Scalar.indexCast v242
  let c0_92 : Index := 0#32
  ![v243.toNat, 0]
def k0_off23 (i : grid0.Coords) : Fin 2 → Nat :=
  let arg0 : BitVec 32 := BitVec.ofNat 32 (i 0).val
  let c16_i32_91 : BitVec 32 := 16#32
  let v241 : BitVec 32 := Scalar.muli arg0 c16_i32_91
  let c5_i32 : BitVec 32 := 5#32
  let v242 : BitVec 32 := Scalar.addi v241 c5_i32
  let v245 : Index := Scalar.indexCast v242
  let c1_93 : Index := 1#32
  ![v245.toNat, 1]
def k0_off24 (v244 : BitVec 32) : Fin 1 → Nat :=
  let v247 : Index := Scalar.indexCast v244
  ![v247.toNat]

def k0_chk11 (v244 : BitVec 32) : Prop :=
  (∀ a, (k0_off24 v244) a + S1.size a ≤ S11.size a)
theorem k0_off24_inb : ∀ (v244 : BitVec 32) (k0_hw11 : k0_chk11 v244), ∀ a, (k0_off24 v244) a + S1.size a ≤ S11.size a := fun v244 k0_hw11 => k0_hw11

def k0_mult6 (v244 : BitVec 32) (v246 : BitVec 32) (v248 : BitVec 32) : BitVec 32 :=
  let v249 : BitVec 32 := Scalar.addi v248 v244
  let v250 : BitVec 32 := Scalar.addi v249 v246
  let c0_i32_95 : BitVec 32 := 0#32
  let v252 : BitVec 1 := Scalar.cmpi .sgt v250 c0_i32_95
  let v253 : BitVec 32 := Scalar.extui v252
  let c0_i32_96 : BitVec 32 := 0#32
  let v254 : BitVec 1 := Scalar.cmpi .slt v250 c0_i32_96
  let v255 : BitVec 32 := Scalar.extui v254
  let v256 : BitVec 32 := Scalar.subi v253 v255
  let c128_i32_94 : BitVec 32 := 128#32
  let c0_i32_97 : BitVec 32 := 0#32
  let v257 : BitVec 1 := Scalar.cmpi .sgt c128_i32_94 c0_i32_97
  let v258 : BitVec 32 := Scalar.extui v257
  let c0_i32_98 : BitVec 32 := 0#32
  let v259 : BitVec 1 := Scalar.cmpi .slt c128_i32_94 c0_i32_98
  let v260 : BitVec 32 := Scalar.extui v259
  let v261 : BitVec 32 := Scalar.subi v258 v260
  let v262 : BitVec 1 := Scalar.cmpi .ne v256 v261
  let v263 : BitVec 32 := Scalar.remsi v250 c128_i32_94
  let c0_i32_99 : BitVec 32 := 0#32
  let v264 : BitVec 1 := Scalar.cmpi .ne v263 c0_i32_99
  let v265 : BitVec 1 := Scalar.andi v262 v264
  let v251 : BitVec 32 := Scalar.divsi v250 c128_i32_94
  let c1_i32_100 : BitVec 32 := 1#32
  let v266 : BitVec 32 := Scalar.subi v251 c1_i32_100
  let v267 : BitVec 32 := Scalar.select v265 v266 v251
  let c128_i32_101 : BitVec 32 := 128#32
  let v268 : BitVec 32 := Scalar.muli v267 c128_i32_101
  v268

def k0_off25 (v244 : BitVec 32) (v246 : BitVec 32) (v248 : BitVec 32) : Fin 2 → Nat :=
  let c5 : Index := 5#32
  let v249 : BitVec 32 := Scalar.addi v248 v244
  let v250 : BitVec 32 := Scalar.addi v249 v246
  let c0_i32_95 : BitVec 32 := 0#32
  let v252 : BitVec 1 := Scalar.cmpi .sgt v250 c0_i32_95
  let v253 : BitVec 32 := Scalar.extui v252
  let c0_i32_96 : BitVec 32 := 0#32
  let v254 : BitVec 1 := Scalar.cmpi .slt v250 c0_i32_96
  let v255 : BitVec 32 := Scalar.extui v254
  let v256 : BitVec 32 := Scalar.subi v253 v255
  let c128_i32_94 : BitVec 32 := 128#32
  let c0_i32_97 : BitVec 32 := 0#32
  let v257 : BitVec 1 := Scalar.cmpi .sgt c128_i32_94 c0_i32_97
  let v258 : BitVec 32 := Scalar.extui v257
  let c0_i32_98 : BitVec 32 := 0#32
  let v259 : BitVec 1 := Scalar.cmpi .slt c128_i32_94 c0_i32_98
  let v260 : BitVec 32 := Scalar.extui v259
  let v261 : BitVec 32 := Scalar.subi v258 v260
  let v262 : BitVec 1 := Scalar.cmpi .ne v256 v261
  let v263 : BitVec 32 := Scalar.remsi v250 c128_i32_94
  let c0_i32_99 : BitVec 32 := 0#32
  let v264 : BitVec 1 := Scalar.cmpi .ne v263 c0_i32_99
  let v265 : BitVec 1 := Scalar.andi v262 v264
  let v251 : BitVec 32 := Scalar.divsi v250 c128_i32_94
  let c1_i32_100 : BitVec 32 := 1#32
  let v266 : BitVec 32 := Scalar.subi v251 c1_i32_100
  let v267 : BitVec 32 := Scalar.select v265 v266 v251
  let c128_i32_101 : BitVec 32 := 128#32
  let v268 : BitVec 32 := Scalar.muli v267 c128_i32_101
  let v269 : BitVec 32 := v268
  let v271 : Index := Scalar.indexCast v269
  ![5, v271.toNat]

def k0_chk12 (v244 : BitVec 32) (v246 : BitVec 32) (v248 : BitVec 32) : Prop :=
  (128 ∣ (k0_mult6 v244 v246 v248).toNat) ∧
  (∀ a, (k0_off25 v244 v246 v248) a + S1x128.size a ≤ S16x100000.size a)
theorem k0_mult6_dvd : ∀ (v244 : BitVec 32) (v246 : BitVec 32) (v248 : BitVec 32) (k0_hw12 : k0_chk12 v244 v246 v248), 128 ∣ (k0_mult6 v244 v246 v248).toNat := fun v244 v246 v248 k0_hw12 => k0_hw12.1
theorem k0_off25_inb : ∀ (v244 : BitVec 32) (v246 : BitVec 32) (v248 : BitVec 32) (k0_hw12 : k0_chk12 v244 v246 v248), ∀ a, (k0_off25 v244 v246 v248) a + S1x128.size a ≤ S16x100000.size a := fun v244 v246 v248 k0_hw12 => k0_hw12.2

def k0_off26 (i : grid0.Coords) : Fin 2 → Nat :=
  let arg0 : BitVec 32 := BitVec.ofNat 32 (i 0).val
  let c16_i32_106 : BitVec 32 := 16#32
  let v283 : BitVec 32 := Scalar.muli arg0 c16_i32_106
  let c6_i32 : BitVec 32 := 6#32
  let v284 : BitVec 32 := Scalar.addi v283 c6_i32
  let v285 : Index := Scalar.indexCast v284
  let c0_107 : Index := 0#32
  ![v285.toNat, 0]
def k0_off27 (i : grid0.Coords) : Fin 2 → Nat :=
  let arg0 : BitVec 32 := BitVec.ofNat 32 (i 0).val
  let c16_i32_106 : BitVec 32 := 16#32
  let v283 : BitVec 32 := Scalar.muli arg0 c16_i32_106
  let c6_i32 : BitVec 32 := 6#32
  let v284 : BitVec 32 := Scalar.addi v283 c6_i32
  let v287 : Index := Scalar.indexCast v284
  let c1_108 : Index := 1#32
  ![v287.toNat, 1]
def k0_off28 (v286 : BitVec 32) : Fin 1 → Nat :=
  let v289 : Index := Scalar.indexCast v286
  ![v289.toNat]

def k0_chk13 (v286 : BitVec 32) : Prop :=
  (∀ a, (k0_off28 v286) a + S1.size a ≤ S11.size a)
theorem k0_off28_inb : ∀ (v286 : BitVec 32) (k0_hw13 : k0_chk13 v286), ∀ a, (k0_off28 v286) a + S1.size a ≤ S11.size a := fun v286 k0_hw13 => k0_hw13

def k0_mult7 (v286 : BitVec 32) (v288 : BitVec 32) (v290 : BitVec 32) : BitVec 32 :=
  let v291 : BitVec 32 := Scalar.addi v290 v286
  let v292 : BitVec 32 := Scalar.addi v291 v288
  let c0_i32_110 : BitVec 32 := 0#32
  let v294 : BitVec 1 := Scalar.cmpi .sgt v292 c0_i32_110
  let v295 : BitVec 32 := Scalar.extui v294
  let c0_i32_111 : BitVec 32 := 0#32
  let v296 : BitVec 1 := Scalar.cmpi .slt v292 c0_i32_111
  let v297 : BitVec 32 := Scalar.extui v296
  let v298 : BitVec 32 := Scalar.subi v295 v297
  let c128_i32_109 : BitVec 32 := 128#32
  let c0_i32_112 : BitVec 32 := 0#32
  let v299 : BitVec 1 := Scalar.cmpi .sgt c128_i32_109 c0_i32_112
  let v300 : BitVec 32 := Scalar.extui v299
  let c0_i32_113 : BitVec 32 := 0#32
  let v301 : BitVec 1 := Scalar.cmpi .slt c128_i32_109 c0_i32_113
  let v302 : BitVec 32 := Scalar.extui v301
  let v303 : BitVec 32 := Scalar.subi v300 v302
  let v304 : BitVec 1 := Scalar.cmpi .ne v298 v303
  let v305 : BitVec 32 := Scalar.remsi v292 c128_i32_109
  let c0_i32_114 : BitVec 32 := 0#32
  let v306 : BitVec 1 := Scalar.cmpi .ne v305 c0_i32_114
  let v307 : BitVec 1 := Scalar.andi v304 v306
  let v293 : BitVec 32 := Scalar.divsi v292 c128_i32_109
  let c1_i32_115 : BitVec 32 := 1#32
  let v308 : BitVec 32 := Scalar.subi v293 c1_i32_115
  let v309 : BitVec 32 := Scalar.select v307 v308 v293
  let c128_i32_116 : BitVec 32 := 128#32
  let v310 : BitVec 32 := Scalar.muli v309 c128_i32_116
  v310

def k0_off29 (v286 : BitVec 32) (v288 : BitVec 32) (v290 : BitVec 32) : Fin 2 → Nat :=
  let c6 : Index := 6#32
  let v291 : BitVec 32 := Scalar.addi v290 v286
  let v292 : BitVec 32 := Scalar.addi v291 v288
  let c0_i32_110 : BitVec 32 := 0#32
  let v294 : BitVec 1 := Scalar.cmpi .sgt v292 c0_i32_110
  let v295 : BitVec 32 := Scalar.extui v294
  let c0_i32_111 : BitVec 32 := 0#32
  let v296 : BitVec 1 := Scalar.cmpi .slt v292 c0_i32_111
  let v297 : BitVec 32 := Scalar.extui v296
  let v298 : BitVec 32 := Scalar.subi v295 v297
  let c128_i32_109 : BitVec 32 := 128#32
  let c0_i32_112 : BitVec 32 := 0#32
  let v299 : BitVec 1 := Scalar.cmpi .sgt c128_i32_109 c0_i32_112
  let v300 : BitVec 32 := Scalar.extui v299
  let c0_i32_113 : BitVec 32 := 0#32
  let v301 : BitVec 1 := Scalar.cmpi .slt c128_i32_109 c0_i32_113
  let v302 : BitVec 32 := Scalar.extui v301
  let v303 : BitVec 32 := Scalar.subi v300 v302
  let v304 : BitVec 1 := Scalar.cmpi .ne v298 v303
  let v305 : BitVec 32 := Scalar.remsi v292 c128_i32_109
  let c0_i32_114 : BitVec 32 := 0#32
  let v306 : BitVec 1 := Scalar.cmpi .ne v305 c0_i32_114
  let v307 : BitVec 1 := Scalar.andi v304 v306
  let v293 : BitVec 32 := Scalar.divsi v292 c128_i32_109
  let c1_i32_115 : BitVec 32 := 1#32
  let v308 : BitVec 32 := Scalar.subi v293 c1_i32_115
  let v309 : BitVec 32 := Scalar.select v307 v308 v293
  let c128_i32_116 : BitVec 32 := 128#32
  let v310 : BitVec 32 := Scalar.muli v309 c128_i32_116
  let v311 : BitVec 32 := v310
  let v313 : Index := Scalar.indexCast v311
  ![6, v313.toNat]

def k0_chk14 (v286 : BitVec 32) (v288 : BitVec 32) (v290 : BitVec 32) : Prop :=
  (128 ∣ (k0_mult7 v286 v288 v290).toNat) ∧
  (∀ a, (k0_off29 v286 v288 v290) a + S1x128.size a ≤ S16x100000.size a)
theorem k0_mult7_dvd : ∀ (v286 : BitVec 32) (v288 : BitVec 32) (v290 : BitVec 32) (k0_hw14 : k0_chk14 v286 v288 v290), 128 ∣ (k0_mult7 v286 v288 v290).toNat := fun v286 v288 v290 k0_hw14 => k0_hw14.1
theorem k0_off29_inb : ∀ (v286 : BitVec 32) (v288 : BitVec 32) (v290 : BitVec 32) (k0_hw14 : k0_chk14 v286 v288 v290), ∀ a, (k0_off29 v286 v288 v290) a + S1x128.size a ≤ S16x100000.size a := fun v286 v288 v290 k0_hw14 => k0_hw14.2

def k0_off30 (i : grid0.Coords) : Fin 2 → Nat :=
  let arg0 : BitVec 32 := BitVec.ofNat 32 (i 0).val
  let c16_i32_121 : BitVec 32 := 16#32
  let v325 : BitVec 32 := Scalar.muli arg0 c16_i32_121
  let c7_i32 : BitVec 32 := 7#32
  let v326 : BitVec 32 := Scalar.addi v325 c7_i32
  let v327 : Index := Scalar.indexCast v326
  let c0_122 : Index := 0#32
  ![v327.toNat, 0]
def k0_off31 (i : grid0.Coords) : Fin 2 → Nat :=
  let arg0 : BitVec 32 := BitVec.ofNat 32 (i 0).val
  let c16_i32_121 : BitVec 32 := 16#32
  let v325 : BitVec 32 := Scalar.muli arg0 c16_i32_121
  let c7_i32 : BitVec 32 := 7#32
  let v326 : BitVec 32 := Scalar.addi v325 c7_i32
  let v329 : Index := Scalar.indexCast v326
  let c1_123 : Index := 1#32
  ![v329.toNat, 1]
def k0_off32 (v328 : BitVec 32) : Fin 1 → Nat :=
  let v331 : Index := Scalar.indexCast v328
  ![v331.toNat]

def k0_chk15 (v328 : BitVec 32) : Prop :=
  (∀ a, (k0_off32 v328) a + S1.size a ≤ S11.size a)
theorem k0_off32_inb : ∀ (v328 : BitVec 32) (k0_hw15 : k0_chk15 v328), ∀ a, (k0_off32 v328) a + S1.size a ≤ S11.size a := fun v328 k0_hw15 => k0_hw15

def k0_mult8 (v328 : BitVec 32) (v330 : BitVec 32) (v332 : BitVec 32) : BitVec 32 :=
  let v333 : BitVec 32 := Scalar.addi v332 v328
  let v334 : BitVec 32 := Scalar.addi v333 v330
  let c0_i32_125 : BitVec 32 := 0#32
  let v336 : BitVec 1 := Scalar.cmpi .sgt v334 c0_i32_125
  let v337 : BitVec 32 := Scalar.extui v336
  let c0_i32_126 : BitVec 32 := 0#32
  let v338 : BitVec 1 := Scalar.cmpi .slt v334 c0_i32_126
  let v339 : BitVec 32 := Scalar.extui v338
  let v340 : BitVec 32 := Scalar.subi v337 v339
  let c128_i32_124 : BitVec 32 := 128#32
  let c0_i32_127 : BitVec 32 := 0#32
  let v341 : BitVec 1 := Scalar.cmpi .sgt c128_i32_124 c0_i32_127
  let v342 : BitVec 32 := Scalar.extui v341
  let c0_i32_128 : BitVec 32 := 0#32
  let v343 : BitVec 1 := Scalar.cmpi .slt c128_i32_124 c0_i32_128
  let v344 : BitVec 32 := Scalar.extui v343
  let v345 : BitVec 32 := Scalar.subi v342 v344
  let v346 : BitVec 1 := Scalar.cmpi .ne v340 v345
  let v347 : BitVec 32 := Scalar.remsi v334 c128_i32_124
  let c0_i32_129 : BitVec 32 := 0#32
  let v348 : BitVec 1 := Scalar.cmpi .ne v347 c0_i32_129
  let v349 : BitVec 1 := Scalar.andi v346 v348
  let v335 : BitVec 32 := Scalar.divsi v334 c128_i32_124
  let c1_i32_130 : BitVec 32 := 1#32
  let v350 : BitVec 32 := Scalar.subi v335 c1_i32_130
  let v351 : BitVec 32 := Scalar.select v349 v350 v335
  let c128_i32_131 : BitVec 32 := 128#32
  let v352 : BitVec 32 := Scalar.muli v351 c128_i32_131
  v352

def k0_off33 (v328 : BitVec 32) (v330 : BitVec 32) (v332 : BitVec 32) : Fin 2 → Nat :=
  let c7 : Index := 7#32
  let v333 : BitVec 32 := Scalar.addi v332 v328
  let v334 : BitVec 32 := Scalar.addi v333 v330
  let c0_i32_125 : BitVec 32 := 0#32
  let v336 : BitVec 1 := Scalar.cmpi .sgt v334 c0_i32_125
  let v337 : BitVec 32 := Scalar.extui v336
  let c0_i32_126 : BitVec 32 := 0#32
  let v338 : BitVec 1 := Scalar.cmpi .slt v334 c0_i32_126
  let v339 : BitVec 32 := Scalar.extui v338
  let v340 : BitVec 32 := Scalar.subi v337 v339
  let c128_i32_124 : BitVec 32 := 128#32
  let c0_i32_127 : BitVec 32 := 0#32
  let v341 : BitVec 1 := Scalar.cmpi .sgt c128_i32_124 c0_i32_127
  let v342 : BitVec 32 := Scalar.extui v341
  let c0_i32_128 : BitVec 32 := 0#32
  let v343 : BitVec 1 := Scalar.cmpi .slt c128_i32_124 c0_i32_128
  let v344 : BitVec 32 := Scalar.extui v343
  let v345 : BitVec 32 := Scalar.subi v342 v344
  let v346 : BitVec 1 := Scalar.cmpi .ne v340 v345
  let v347 : BitVec 32 := Scalar.remsi v334 c128_i32_124
  let c0_i32_129 : BitVec 32 := 0#32
  let v348 : BitVec 1 := Scalar.cmpi .ne v347 c0_i32_129
  let v349 : BitVec 1 := Scalar.andi v346 v348
  let v335 : BitVec 32 := Scalar.divsi v334 c128_i32_124
  let c1_i32_130 : BitVec 32 := 1#32
  let v350 : BitVec 32 := Scalar.subi v335 c1_i32_130
  let v351 : BitVec 32 := Scalar.select v349 v350 v335
  let c128_i32_131 : BitVec 32 := 128#32
  let v352 : BitVec 32 := Scalar.muli v351 c128_i32_131
  let v353 : BitVec 32 := v352
  let v355 : Index := Scalar.indexCast v353
  ![7, v355.toNat]

def k0_chk16 (v328 : BitVec 32) (v330 : BitVec 32) (v332 : BitVec 32) : Prop :=
  (128 ∣ (k0_mult8 v328 v330 v332).toNat) ∧
  (∀ a, (k0_off33 v328 v330 v332) a + S1x128.size a ≤ S16x100000.size a)
theorem k0_mult8_dvd : ∀ (v328 : BitVec 32) (v330 : BitVec 32) (v332 : BitVec 32) (k0_hw16 : k0_chk16 v328 v330 v332), 128 ∣ (k0_mult8 v328 v330 v332).toNat := fun v328 v330 v332 k0_hw16 => k0_hw16.1
theorem k0_off33_inb : ∀ (v328 : BitVec 32) (v330 : BitVec 32) (v332 : BitVec 32) (k0_hw16 : k0_chk16 v328 v330 v332), ∀ a, (k0_off33 v328 v330 v332) a + S1x128.size a ≤ S16x100000.size a := fun v328 v330 v332 k0_hw16 => k0_hw16.2

def k0_off34 (i : grid0.Coords) : Fin 2 → Nat :=
  let arg0 : BitVec 32 := BitVec.ofNat 32 (i 0).val
  let c16_i32_136 : BitVec 32 := 16#32
  let v367 : BitVec 32 := Scalar.muli arg0 c16_i32_136
  let c8_i32 : BitVec 32 := 8#32
  let v368 : BitVec 32 := Scalar.addi v367 c8_i32
  let v369 : Index := Scalar.indexCast v368
  let c0_137 : Index := 0#32
  ![v369.toNat, 0]
def k0_off35 (i : grid0.Coords) : Fin 2 → Nat :=
  let arg0 : BitVec 32 := BitVec.ofNat 32 (i 0).val
  let c16_i32_136 : BitVec 32 := 16#32
  let v367 : BitVec 32 := Scalar.muli arg0 c16_i32_136
  let c8_i32 : BitVec 32 := 8#32
  let v368 : BitVec 32 := Scalar.addi v367 c8_i32
  let v371 : Index := Scalar.indexCast v368
  let c1_138 : Index := 1#32
  ![v371.toNat, 1]
def k0_off36 (v370 : BitVec 32) : Fin 1 → Nat :=
  let v373 : Index := Scalar.indexCast v370
  ![v373.toNat]

def k0_chk17 (v370 : BitVec 32) : Prop :=
  (∀ a, (k0_off36 v370) a + S1.size a ≤ S11.size a)
theorem k0_off36_inb : ∀ (v370 : BitVec 32) (k0_hw17 : k0_chk17 v370), ∀ a, (k0_off36 v370) a + S1.size a ≤ S11.size a := fun v370 k0_hw17 => k0_hw17

def k0_mult9 (v370 : BitVec 32) (v372 : BitVec 32) (v374 : BitVec 32) : BitVec 32 :=
  let v375 : BitVec 32 := Scalar.addi v374 v370
  let v376 : BitVec 32 := Scalar.addi v375 v372
  let c0_i32_140 : BitVec 32 := 0#32
  let v378 : BitVec 1 := Scalar.cmpi .sgt v376 c0_i32_140
  let v379 : BitVec 32 := Scalar.extui v378
  let c0_i32_141 : BitVec 32 := 0#32
  let v380 : BitVec 1 := Scalar.cmpi .slt v376 c0_i32_141
  let v381 : BitVec 32 := Scalar.extui v380
  let v382 : BitVec 32 := Scalar.subi v379 v381
  let c128_i32_139 : BitVec 32 := 128#32
  let c0_i32_142 : BitVec 32 := 0#32
  let v383 : BitVec 1 := Scalar.cmpi .sgt c128_i32_139 c0_i32_142
  let v384 : BitVec 32 := Scalar.extui v383
  let c0_i32_143 : BitVec 32 := 0#32
  let v385 : BitVec 1 := Scalar.cmpi .slt c128_i32_139 c0_i32_143
  let v386 : BitVec 32 := Scalar.extui v385
  let v387 : BitVec 32 := Scalar.subi v384 v386
  let v388 : BitVec 1 := Scalar.cmpi .ne v382 v387
  let v389 : BitVec 32 := Scalar.remsi v376 c128_i32_139
  let c0_i32_144 : BitVec 32 := 0#32
  let v390 : BitVec 1 := Scalar.cmpi .ne v389 c0_i32_144
  let v391 : BitVec 1 := Scalar.andi v388 v390
  let v377 : BitVec 32 := Scalar.divsi v376 c128_i32_139
  let c1_i32_145 : BitVec 32 := 1#32
  let v392 : BitVec 32 := Scalar.subi v377 c1_i32_145
  let v393 : BitVec 32 := Scalar.select v391 v392 v377
  let c128_i32_146 : BitVec 32 := 128#32
  let v394 : BitVec 32 := Scalar.muli v393 c128_i32_146
  v394

def k0_off37 (v370 : BitVec 32) (v372 : BitVec 32) (v374 : BitVec 32) : Fin 2 → Nat :=
  let c8 : Index := 8#32
  let v375 : BitVec 32 := Scalar.addi v374 v370
  let v376 : BitVec 32 := Scalar.addi v375 v372
  let c0_i32_140 : BitVec 32 := 0#32
  let v378 : BitVec 1 := Scalar.cmpi .sgt v376 c0_i32_140
  let v379 : BitVec 32 := Scalar.extui v378
  let c0_i32_141 : BitVec 32 := 0#32
  let v380 : BitVec 1 := Scalar.cmpi .slt v376 c0_i32_141
  let v381 : BitVec 32 := Scalar.extui v380
  let v382 : BitVec 32 := Scalar.subi v379 v381
  let c128_i32_139 : BitVec 32 := 128#32
  let c0_i32_142 : BitVec 32 := 0#32
  let v383 : BitVec 1 := Scalar.cmpi .sgt c128_i32_139 c0_i32_142
  let v384 : BitVec 32 := Scalar.extui v383
  let c0_i32_143 : BitVec 32 := 0#32
  let v385 : BitVec 1 := Scalar.cmpi .slt c128_i32_139 c0_i32_143
  let v386 : BitVec 32 := Scalar.extui v385
  let v387 : BitVec 32 := Scalar.subi v384 v386
  let v388 : BitVec 1 := Scalar.cmpi .ne v382 v387
  let v389 : BitVec 32 := Scalar.remsi v376 c128_i32_139
  let c0_i32_144 : BitVec 32 := 0#32
  let v390 : BitVec 1 := Scalar.cmpi .ne v389 c0_i32_144
  let v391 : BitVec 1 := Scalar.andi v388 v390
  let v377 : BitVec 32 := Scalar.divsi v376 c128_i32_139
  let c1_i32_145 : BitVec 32 := 1#32
  let v392 : BitVec 32 := Scalar.subi v377 c1_i32_145
  let v393 : BitVec 32 := Scalar.select v391 v392 v377
  let c128_i32_146 : BitVec 32 := 128#32
  let v394 : BitVec 32 := Scalar.muli v393 c128_i32_146
  let v395 : BitVec 32 := v394
  let v397 : Index := Scalar.indexCast v395
  ![8, v397.toNat]

def k0_chk18 (v370 : BitVec 32) (v372 : BitVec 32) (v374 : BitVec 32) : Prop :=
  (128 ∣ (k0_mult9 v370 v372 v374).toNat) ∧
  (∀ a, (k0_off37 v370 v372 v374) a + S1x128.size a ≤ S16x100000.size a)
theorem k0_mult9_dvd : ∀ (v370 : BitVec 32) (v372 : BitVec 32) (v374 : BitVec 32) (k0_hw18 : k0_chk18 v370 v372 v374), 128 ∣ (k0_mult9 v370 v372 v374).toNat := fun v370 v372 v374 k0_hw18 => k0_hw18.1
theorem k0_off37_inb : ∀ (v370 : BitVec 32) (v372 : BitVec 32) (v374 : BitVec 32) (k0_hw18 : k0_chk18 v370 v372 v374), ∀ a, (k0_off37 v370 v372 v374) a + S1x128.size a ≤ S16x100000.size a := fun v370 v372 v374 k0_hw18 => k0_hw18.2

def k0_off38 (i : grid0.Coords) : Fin 2 → Nat :=
  let arg0 : BitVec 32 := BitVec.ofNat 32 (i 0).val
  let c16_i32_151 : BitVec 32 := 16#32
  let v409 : BitVec 32 := Scalar.muli arg0 c16_i32_151
  let c9_i32 : BitVec 32 := 9#32
  let v410 : BitVec 32 := Scalar.addi v409 c9_i32
  let v411 : Index := Scalar.indexCast v410
  let c0_152 : Index := 0#32
  ![v411.toNat, 0]
def k0_off39 (i : grid0.Coords) : Fin 2 → Nat :=
  let arg0 : BitVec 32 := BitVec.ofNat 32 (i 0).val
  let c16_i32_151 : BitVec 32 := 16#32
  let v409 : BitVec 32 := Scalar.muli arg0 c16_i32_151
  let c9_i32 : BitVec 32 := 9#32
  let v410 : BitVec 32 := Scalar.addi v409 c9_i32
  let v413 : Index := Scalar.indexCast v410
  let c1_153 : Index := 1#32
  ![v413.toNat, 1]
def k0_off40 (v412 : BitVec 32) : Fin 1 → Nat :=
  let v415 : Index := Scalar.indexCast v412
  ![v415.toNat]

def k0_chk19 (v412 : BitVec 32) : Prop :=
  (∀ a, (k0_off40 v412) a + S1.size a ≤ S11.size a)
theorem k0_off40_inb : ∀ (v412 : BitVec 32) (k0_hw19 : k0_chk19 v412), ∀ a, (k0_off40 v412) a + S1.size a ≤ S11.size a := fun v412 k0_hw19 => k0_hw19

def k0_mult10 (v412 : BitVec 32) (v414 : BitVec 32) (v416 : BitVec 32) : BitVec 32 :=
  let v417 : BitVec 32 := Scalar.addi v416 v412
  let v418 : BitVec 32 := Scalar.addi v417 v414
  let c0_i32_155 : BitVec 32 := 0#32
  let v420 : BitVec 1 := Scalar.cmpi .sgt v418 c0_i32_155
  let v421 : BitVec 32 := Scalar.extui v420
  let c0_i32_156 : BitVec 32 := 0#32
  let v422 : BitVec 1 := Scalar.cmpi .slt v418 c0_i32_156
  let v423 : BitVec 32 := Scalar.extui v422
  let v424 : BitVec 32 := Scalar.subi v421 v423
  let c128_i32_154 : BitVec 32 := 128#32
  let c0_i32_157 : BitVec 32 := 0#32
  let v425 : BitVec 1 := Scalar.cmpi .sgt c128_i32_154 c0_i32_157
  let v426 : BitVec 32 := Scalar.extui v425
  let c0_i32_158 : BitVec 32 := 0#32
  let v427 : BitVec 1 := Scalar.cmpi .slt c128_i32_154 c0_i32_158
  let v428 : BitVec 32 := Scalar.extui v427
  let v429 : BitVec 32 := Scalar.subi v426 v428
  let v430 : BitVec 1 := Scalar.cmpi .ne v424 v429
  let v431 : BitVec 32 := Scalar.remsi v418 c128_i32_154
  let c0_i32_159 : BitVec 32 := 0#32
  let v432 : BitVec 1 := Scalar.cmpi .ne v431 c0_i32_159
  let v433 : BitVec 1 := Scalar.andi v430 v432
  let v419 : BitVec 32 := Scalar.divsi v418 c128_i32_154
  let c1_i32_160 : BitVec 32 := 1#32
  let v434 : BitVec 32 := Scalar.subi v419 c1_i32_160
  let v435 : BitVec 32 := Scalar.select v433 v434 v419
  let c128_i32_161 : BitVec 32 := 128#32
  let v436 : BitVec 32 := Scalar.muli v435 c128_i32_161
  v436

def k0_off41 (v412 : BitVec 32) (v414 : BitVec 32) (v416 : BitVec 32) : Fin 2 → Nat :=
  let c9 : Index := 9#32
  let v417 : BitVec 32 := Scalar.addi v416 v412
  let v418 : BitVec 32 := Scalar.addi v417 v414
  let c0_i32_155 : BitVec 32 := 0#32
  let v420 : BitVec 1 := Scalar.cmpi .sgt v418 c0_i32_155
  let v421 : BitVec 32 := Scalar.extui v420
  let c0_i32_156 : BitVec 32 := 0#32
  let v422 : BitVec 1 := Scalar.cmpi .slt v418 c0_i32_156
  let v423 : BitVec 32 := Scalar.extui v422
  let v424 : BitVec 32 := Scalar.subi v421 v423
  let c128_i32_154 : BitVec 32 := 128#32
  let c0_i32_157 : BitVec 32 := 0#32
  let v425 : BitVec 1 := Scalar.cmpi .sgt c128_i32_154 c0_i32_157
  let v426 : BitVec 32 := Scalar.extui v425
  let c0_i32_158 : BitVec 32 := 0#32
  let v427 : BitVec 1 := Scalar.cmpi .slt c128_i32_154 c0_i32_158
  let v428 : BitVec 32 := Scalar.extui v427
  let v429 : BitVec 32 := Scalar.subi v426 v428
  let v430 : BitVec 1 := Scalar.cmpi .ne v424 v429
  let v431 : BitVec 32 := Scalar.remsi v418 c128_i32_154
  let c0_i32_159 : BitVec 32 := 0#32
  let v432 : BitVec 1 := Scalar.cmpi .ne v431 c0_i32_159
  let v433 : BitVec 1 := Scalar.andi v430 v432
  let v419 : BitVec 32 := Scalar.divsi v418 c128_i32_154
  let c1_i32_160 : BitVec 32 := 1#32
  let v434 : BitVec 32 := Scalar.subi v419 c1_i32_160
  let v435 : BitVec 32 := Scalar.select v433 v434 v419
  let c128_i32_161 : BitVec 32 := 128#32
  let v436 : BitVec 32 := Scalar.muli v435 c128_i32_161
  let v437 : BitVec 32 := v436
  let v439 : Index := Scalar.indexCast v437
  ![9, v439.toNat]

def k0_chk20 (v412 : BitVec 32) (v414 : BitVec 32) (v416 : BitVec 32) : Prop :=
  (128 ∣ (k0_mult10 v412 v414 v416).toNat) ∧
  (∀ a, (k0_off41 v412 v414 v416) a + S1x128.size a ≤ S16x100000.size a)
theorem k0_mult10_dvd : ∀ (v412 : BitVec 32) (v414 : BitVec 32) (v416 : BitVec 32) (k0_hw20 : k0_chk20 v412 v414 v416), 128 ∣ (k0_mult10 v412 v414 v416).toNat := fun v412 v414 v416 k0_hw20 => k0_hw20.1
theorem k0_off41_inb : ∀ (v412 : BitVec 32) (v414 : BitVec 32) (v416 : BitVec 32) (k0_hw20 : k0_chk20 v412 v414 v416), ∀ a, (k0_off41 v412 v414 v416) a + S1x128.size a ≤ S16x100000.size a := fun v412 v414 v416 k0_hw20 => k0_hw20.2

def k0_off42 (i : grid0.Coords) : Fin 2 → Nat :=
  let arg0 : BitVec 32 := BitVec.ofNat 32 (i 0).val
  let c16_i32_166 : BitVec 32 := 16#32
  let v451 : BitVec 32 := Scalar.muli arg0 c16_i32_166
  let c10_i32 : BitVec 32 := 10#32
  let v452 : BitVec 32 := Scalar.addi v451 c10_i32
  let v453 : Index := Scalar.indexCast v452
  let c0_167 : Index := 0#32
  ![v453.toNat, 0]
def k0_off43 (i : grid0.Coords) : Fin 2 → Nat :=
  let arg0 : BitVec 32 := BitVec.ofNat 32 (i 0).val
  let c16_i32_166 : BitVec 32 := 16#32
  let v451 : BitVec 32 := Scalar.muli arg0 c16_i32_166
  let c10_i32 : BitVec 32 := 10#32
  let v452 : BitVec 32 := Scalar.addi v451 c10_i32
  let v455 : Index := Scalar.indexCast v452
  let c1_168 : Index := 1#32
  ![v455.toNat, 1]
def k0_off44 (v454 : BitVec 32) : Fin 1 → Nat :=
  let v457 : Index := Scalar.indexCast v454
  ![v457.toNat]

def k0_chk21 (v454 : BitVec 32) : Prop :=
  (∀ a, (k0_off44 v454) a + S1.size a ≤ S11.size a)
theorem k0_off44_inb : ∀ (v454 : BitVec 32) (k0_hw21 : k0_chk21 v454), ∀ a, (k0_off44 v454) a + S1.size a ≤ S11.size a := fun v454 k0_hw21 => k0_hw21

def k0_mult11 (v454 : BitVec 32) (v456 : BitVec 32) (v458 : BitVec 32) : BitVec 32 :=
  let v459 : BitVec 32 := Scalar.addi v458 v454
  let v460 : BitVec 32 := Scalar.addi v459 v456
  let c0_i32_170 : BitVec 32 := 0#32
  let v462 : BitVec 1 := Scalar.cmpi .sgt v460 c0_i32_170
  let v463 : BitVec 32 := Scalar.extui v462
  let c0_i32_171 : BitVec 32 := 0#32
  let v464 : BitVec 1 := Scalar.cmpi .slt v460 c0_i32_171
  let v465 : BitVec 32 := Scalar.extui v464
  let v466 : BitVec 32 := Scalar.subi v463 v465
  let c128_i32_169 : BitVec 32 := 128#32
  let c0_i32_172 : BitVec 32 := 0#32
  let v467 : BitVec 1 := Scalar.cmpi .sgt c128_i32_169 c0_i32_172
  let v468 : BitVec 32 := Scalar.extui v467
  let c0_i32_173 : BitVec 32 := 0#32
  let v469 : BitVec 1 := Scalar.cmpi .slt c128_i32_169 c0_i32_173
  let v470 : BitVec 32 := Scalar.extui v469
  let v471 : BitVec 32 := Scalar.subi v468 v470
  let v472 : BitVec 1 := Scalar.cmpi .ne v466 v471
  let v473 : BitVec 32 := Scalar.remsi v460 c128_i32_169
  let c0_i32_174 : BitVec 32 := 0#32
  let v474 : BitVec 1 := Scalar.cmpi .ne v473 c0_i32_174
  let v475 : BitVec 1 := Scalar.andi v472 v474
  let v461 : BitVec 32 := Scalar.divsi v460 c128_i32_169
  let c1_i32_175 : BitVec 32 := 1#32
  let v476 : BitVec 32 := Scalar.subi v461 c1_i32_175
  let v477 : BitVec 32 := Scalar.select v475 v476 v461
  let c128_i32_176 : BitVec 32 := 128#32
  let v478 : BitVec 32 := Scalar.muli v477 c128_i32_176
  v478

def k0_off45 (v454 : BitVec 32) (v456 : BitVec 32) (v458 : BitVec 32) : Fin 2 → Nat :=
  let c10 : Index := 10#32
  let v459 : BitVec 32 := Scalar.addi v458 v454
  let v460 : BitVec 32 := Scalar.addi v459 v456
  let c0_i32_170 : BitVec 32 := 0#32
  let v462 : BitVec 1 := Scalar.cmpi .sgt v460 c0_i32_170
  let v463 : BitVec 32 := Scalar.extui v462
  let c0_i32_171 : BitVec 32 := 0#32
  let v464 : BitVec 1 := Scalar.cmpi .slt v460 c0_i32_171
  let v465 : BitVec 32 := Scalar.extui v464
  let v466 : BitVec 32 := Scalar.subi v463 v465
  let c128_i32_169 : BitVec 32 := 128#32
  let c0_i32_172 : BitVec 32 := 0#32
  let v467 : BitVec 1 := Scalar.cmpi .sgt c128_i32_169 c0_i32_172
  let v468 : BitVec 32 := Scalar.extui v467
  let c0_i32_173 : BitVec 32 := 0#32
  let v469 : BitVec 1 := Scalar.cmpi .slt c128_i32_169 c0_i32_173
  let v470 : BitVec 32 := Scalar.extui v469
  let v471 : BitVec 32 := Scalar.subi v468 v470
  let v472 : BitVec 1 := Scalar.cmpi .ne v466 v471
  let v473 : BitVec 32 := Scalar.remsi v460 c128_i32_169
  let c0_i32_174 : BitVec 32 := 0#32
  let v474 : BitVec 1 := Scalar.cmpi .ne v473 c0_i32_174
  let v475 : BitVec 1 := Scalar.andi v472 v474
  let v461 : BitVec 32 := Scalar.divsi v460 c128_i32_169
  let c1_i32_175 : BitVec 32 := 1#32
  let v476 : BitVec 32 := Scalar.subi v461 c1_i32_175
  let v477 : BitVec 32 := Scalar.select v475 v476 v461
  let c128_i32_176 : BitVec 32 := 128#32
  let v478 : BitVec 32 := Scalar.muli v477 c128_i32_176
  let v479 : BitVec 32 := v478
  let v481 : Index := Scalar.indexCast v479
  ![10, v481.toNat]

def k0_chk22 (v454 : BitVec 32) (v456 : BitVec 32) (v458 : BitVec 32) : Prop :=
  (128 ∣ (k0_mult11 v454 v456 v458).toNat) ∧
  (∀ a, (k0_off45 v454 v456 v458) a + S1x128.size a ≤ S16x100000.size a)
theorem k0_mult11_dvd : ∀ (v454 : BitVec 32) (v456 : BitVec 32) (v458 : BitVec 32) (k0_hw22 : k0_chk22 v454 v456 v458), 128 ∣ (k0_mult11 v454 v456 v458).toNat := fun v454 v456 v458 k0_hw22 => k0_hw22.1
theorem k0_off45_inb : ∀ (v454 : BitVec 32) (v456 : BitVec 32) (v458 : BitVec 32) (k0_hw22 : k0_chk22 v454 v456 v458), ∀ a, (k0_off45 v454 v456 v458) a + S1x128.size a ≤ S16x100000.size a := fun v454 v456 v458 k0_hw22 => k0_hw22.2

def k0_off46 (i : grid0.Coords) : Fin 2 → Nat :=
  let arg0 : BitVec 32 := BitVec.ofNat 32 (i 0).val
  let c16_i32_181 : BitVec 32 := 16#32
  let v493 : BitVec 32 := Scalar.muli arg0 c16_i32_181
  let c11_i32 : BitVec 32 := 11#32
  let v494 : BitVec 32 := Scalar.addi v493 c11_i32
  let v495 : Index := Scalar.indexCast v494
  let c0_182 : Index := 0#32
  ![v495.toNat, 0]
def k0_off47 (i : grid0.Coords) : Fin 2 → Nat :=
  let arg0 : BitVec 32 := BitVec.ofNat 32 (i 0).val
  let c16_i32_181 : BitVec 32 := 16#32
  let v493 : BitVec 32 := Scalar.muli arg0 c16_i32_181
  let c11_i32 : BitVec 32 := 11#32
  let v494 : BitVec 32 := Scalar.addi v493 c11_i32
  let v497 : Index := Scalar.indexCast v494
  let c1_183 : Index := 1#32
  ![v497.toNat, 1]
def k0_off48 (v496 : BitVec 32) : Fin 1 → Nat :=
  let v499 : Index := Scalar.indexCast v496
  ![v499.toNat]

def k0_chk23 (v496 : BitVec 32) : Prop :=
  (∀ a, (k0_off48 v496) a + S1.size a ≤ S11.size a)
theorem k0_off48_inb : ∀ (v496 : BitVec 32) (k0_hw23 : k0_chk23 v496), ∀ a, (k0_off48 v496) a + S1.size a ≤ S11.size a := fun v496 k0_hw23 => k0_hw23

def k0_mult12 (v496 : BitVec 32) (v498 : BitVec 32) (v500 : BitVec 32) : BitVec 32 :=
  let v501 : BitVec 32 := Scalar.addi v500 v496
  let v502 : BitVec 32 := Scalar.addi v501 v498
  let c0_i32_185 : BitVec 32 := 0#32
  let v504 : BitVec 1 := Scalar.cmpi .sgt v502 c0_i32_185
  let v505 : BitVec 32 := Scalar.extui v504
  let c0_i32_186 : BitVec 32 := 0#32
  let v506 : BitVec 1 := Scalar.cmpi .slt v502 c0_i32_186
  let v507 : BitVec 32 := Scalar.extui v506
  let v508 : BitVec 32 := Scalar.subi v505 v507
  let c128_i32_184 : BitVec 32 := 128#32
  let c0_i32_187 : BitVec 32 := 0#32
  let v509 : BitVec 1 := Scalar.cmpi .sgt c128_i32_184 c0_i32_187
  let v510 : BitVec 32 := Scalar.extui v509
  let c0_i32_188 : BitVec 32 := 0#32
  let v511 : BitVec 1 := Scalar.cmpi .slt c128_i32_184 c0_i32_188
  let v512 : BitVec 32 := Scalar.extui v511
  let v513 : BitVec 32 := Scalar.subi v510 v512
  let v514 : BitVec 1 := Scalar.cmpi .ne v508 v513
  let v515 : BitVec 32 := Scalar.remsi v502 c128_i32_184
  let c0_i32_189 : BitVec 32 := 0#32
  let v516 : BitVec 1 := Scalar.cmpi .ne v515 c0_i32_189
  let v517 : BitVec 1 := Scalar.andi v514 v516
  let v503 : BitVec 32 := Scalar.divsi v502 c128_i32_184
  let c1_i32_190 : BitVec 32 := 1#32
  let v518 : BitVec 32 := Scalar.subi v503 c1_i32_190
  let v519 : BitVec 32 := Scalar.select v517 v518 v503
  let c128_i32_191 : BitVec 32 := 128#32
  let v520 : BitVec 32 := Scalar.muli v519 c128_i32_191
  v520

def k0_off49 (v496 : BitVec 32) (v498 : BitVec 32) (v500 : BitVec 32) : Fin 2 → Nat :=
  let c11 : Index := 11#32
  let v501 : BitVec 32 := Scalar.addi v500 v496
  let v502 : BitVec 32 := Scalar.addi v501 v498
  let c0_i32_185 : BitVec 32 := 0#32
  let v504 : BitVec 1 := Scalar.cmpi .sgt v502 c0_i32_185
  let v505 : BitVec 32 := Scalar.extui v504
  let c0_i32_186 : BitVec 32 := 0#32
  let v506 : BitVec 1 := Scalar.cmpi .slt v502 c0_i32_186
  let v507 : BitVec 32 := Scalar.extui v506
  let v508 : BitVec 32 := Scalar.subi v505 v507
  let c128_i32_184 : BitVec 32 := 128#32
  let c0_i32_187 : BitVec 32 := 0#32
  let v509 : BitVec 1 := Scalar.cmpi .sgt c128_i32_184 c0_i32_187
  let v510 : BitVec 32 := Scalar.extui v509
  let c0_i32_188 : BitVec 32 := 0#32
  let v511 : BitVec 1 := Scalar.cmpi .slt c128_i32_184 c0_i32_188
  let v512 : BitVec 32 := Scalar.extui v511
  let v513 : BitVec 32 := Scalar.subi v510 v512
  let v514 : BitVec 1 := Scalar.cmpi .ne v508 v513
  let v515 : BitVec 32 := Scalar.remsi v502 c128_i32_184
  let c0_i32_189 : BitVec 32 := 0#32
  let v516 : BitVec 1 := Scalar.cmpi .ne v515 c0_i32_189
  let v517 : BitVec 1 := Scalar.andi v514 v516
  let v503 : BitVec 32 := Scalar.divsi v502 c128_i32_184
  let c1_i32_190 : BitVec 32 := 1#32
  let v518 : BitVec 32 := Scalar.subi v503 c1_i32_190
  let v519 : BitVec 32 := Scalar.select v517 v518 v503
  let c128_i32_191 : BitVec 32 := 128#32
  let v520 : BitVec 32 := Scalar.muli v519 c128_i32_191
  let v521 : BitVec 32 := v520
  let v523 : Index := Scalar.indexCast v521
  ![11, v523.toNat]

def k0_chk24 (v496 : BitVec 32) (v498 : BitVec 32) (v500 : BitVec 32) : Prop :=
  (128 ∣ (k0_mult12 v496 v498 v500).toNat) ∧
  (∀ a, (k0_off49 v496 v498 v500) a + S1x128.size a ≤ S16x100000.size a)
theorem k0_mult12_dvd : ∀ (v496 : BitVec 32) (v498 : BitVec 32) (v500 : BitVec 32) (k0_hw24 : k0_chk24 v496 v498 v500), 128 ∣ (k0_mult12 v496 v498 v500).toNat := fun v496 v498 v500 k0_hw24 => k0_hw24.1
theorem k0_off49_inb : ∀ (v496 : BitVec 32) (v498 : BitVec 32) (v500 : BitVec 32) (k0_hw24 : k0_chk24 v496 v498 v500), ∀ a, (k0_off49 v496 v498 v500) a + S1x128.size a ≤ S16x100000.size a := fun v496 v498 v500 k0_hw24 => k0_hw24.2

def k0_off50 (i : grid0.Coords) : Fin 2 → Nat :=
  let arg0 : BitVec 32 := BitVec.ofNat 32 (i 0).val
  let c16_i32_196 : BitVec 32 := 16#32
  let v535 : BitVec 32 := Scalar.muli arg0 c16_i32_196
  let c12_i32 : BitVec 32 := 12#32
  let v536 : BitVec 32 := Scalar.addi v535 c12_i32
  let v537 : Index := Scalar.indexCast v536
  let c0_197 : Index := 0#32
  ![v537.toNat, 0]
def k0_off51 (i : grid0.Coords) : Fin 2 → Nat :=
  let arg0 : BitVec 32 := BitVec.ofNat 32 (i 0).val
  let c16_i32_196 : BitVec 32 := 16#32
  let v535 : BitVec 32 := Scalar.muli arg0 c16_i32_196
  let c12_i32 : BitVec 32 := 12#32
  let v536 : BitVec 32 := Scalar.addi v535 c12_i32
  let v539 : Index := Scalar.indexCast v536
  let c1_198 : Index := 1#32
  ![v539.toNat, 1]
def k0_off52 (v538 : BitVec 32) : Fin 1 → Nat :=
  let v541 : Index := Scalar.indexCast v538
  ![v541.toNat]

def k0_chk25 (v538 : BitVec 32) : Prop :=
  (∀ a, (k0_off52 v538) a + S1.size a ≤ S11.size a)
theorem k0_off52_inb : ∀ (v538 : BitVec 32) (k0_hw25 : k0_chk25 v538), ∀ a, (k0_off52 v538) a + S1.size a ≤ S11.size a := fun v538 k0_hw25 => k0_hw25

def k0_mult13 (v538 : BitVec 32) (v540 : BitVec 32) (v542 : BitVec 32) : BitVec 32 :=
  let v543 : BitVec 32 := Scalar.addi v542 v538
  let v544 : BitVec 32 := Scalar.addi v543 v540
  let c0_i32_200 : BitVec 32 := 0#32
  let v546 : BitVec 1 := Scalar.cmpi .sgt v544 c0_i32_200
  let v547 : BitVec 32 := Scalar.extui v546
  let c0_i32_201 : BitVec 32 := 0#32
  let v548 : BitVec 1 := Scalar.cmpi .slt v544 c0_i32_201
  let v549 : BitVec 32 := Scalar.extui v548
  let v550 : BitVec 32 := Scalar.subi v547 v549
  let c128_i32_199 : BitVec 32 := 128#32
  let c0_i32_202 : BitVec 32 := 0#32
  let v551 : BitVec 1 := Scalar.cmpi .sgt c128_i32_199 c0_i32_202
  let v552 : BitVec 32 := Scalar.extui v551
  let c0_i32_203 : BitVec 32 := 0#32
  let v553 : BitVec 1 := Scalar.cmpi .slt c128_i32_199 c0_i32_203
  let v554 : BitVec 32 := Scalar.extui v553
  let v555 : BitVec 32 := Scalar.subi v552 v554
  let v556 : BitVec 1 := Scalar.cmpi .ne v550 v555
  let v557 : BitVec 32 := Scalar.remsi v544 c128_i32_199
  let c0_i32_204 : BitVec 32 := 0#32
  let v558 : BitVec 1 := Scalar.cmpi .ne v557 c0_i32_204
  let v559 : BitVec 1 := Scalar.andi v556 v558
  let v545 : BitVec 32 := Scalar.divsi v544 c128_i32_199
  let c1_i32_205 : BitVec 32 := 1#32
  let v560 : BitVec 32 := Scalar.subi v545 c1_i32_205
  let v561 : BitVec 32 := Scalar.select v559 v560 v545
  let c128_i32_206 : BitVec 32 := 128#32
  let v562 : BitVec 32 := Scalar.muli v561 c128_i32_206
  v562

def k0_off53 (v538 : BitVec 32) (v540 : BitVec 32) (v542 : BitVec 32) : Fin 2 → Nat :=
  let c12 : Index := 12#32
  let v543 : BitVec 32 := Scalar.addi v542 v538
  let v544 : BitVec 32 := Scalar.addi v543 v540
  let c0_i32_200 : BitVec 32 := 0#32
  let v546 : BitVec 1 := Scalar.cmpi .sgt v544 c0_i32_200
  let v547 : BitVec 32 := Scalar.extui v546
  let c0_i32_201 : BitVec 32 := 0#32
  let v548 : BitVec 1 := Scalar.cmpi .slt v544 c0_i32_201
  let v549 : BitVec 32 := Scalar.extui v548
  let v550 : BitVec 32 := Scalar.subi v547 v549
  let c128_i32_199 : BitVec 32 := 128#32
  let c0_i32_202 : BitVec 32 := 0#32
  let v551 : BitVec 1 := Scalar.cmpi .sgt c128_i32_199 c0_i32_202
  let v552 : BitVec 32 := Scalar.extui v551
  let c0_i32_203 : BitVec 32 := 0#32
  let v553 : BitVec 1 := Scalar.cmpi .slt c128_i32_199 c0_i32_203
  let v554 : BitVec 32 := Scalar.extui v553
  let v555 : BitVec 32 := Scalar.subi v552 v554
  let v556 : BitVec 1 := Scalar.cmpi .ne v550 v555
  let v557 : BitVec 32 := Scalar.remsi v544 c128_i32_199
  let c0_i32_204 : BitVec 32 := 0#32
  let v558 : BitVec 1 := Scalar.cmpi .ne v557 c0_i32_204
  let v559 : BitVec 1 := Scalar.andi v556 v558
  let v545 : BitVec 32 := Scalar.divsi v544 c128_i32_199
  let c1_i32_205 : BitVec 32 := 1#32
  let v560 : BitVec 32 := Scalar.subi v545 c1_i32_205
  let v561 : BitVec 32 := Scalar.select v559 v560 v545
  let c128_i32_206 : BitVec 32 := 128#32
  let v562 : BitVec 32 := Scalar.muli v561 c128_i32_206
  let v563 : BitVec 32 := v562
  let v565 : Index := Scalar.indexCast v563
  ![12, v565.toNat]

def k0_chk26 (v538 : BitVec 32) (v540 : BitVec 32) (v542 : BitVec 32) : Prop :=
  (128 ∣ (k0_mult13 v538 v540 v542).toNat) ∧
  (∀ a, (k0_off53 v538 v540 v542) a + S1x128.size a ≤ S16x100000.size a)
theorem k0_mult13_dvd : ∀ (v538 : BitVec 32) (v540 : BitVec 32) (v542 : BitVec 32) (k0_hw26 : k0_chk26 v538 v540 v542), 128 ∣ (k0_mult13 v538 v540 v542).toNat := fun v538 v540 v542 k0_hw26 => k0_hw26.1
theorem k0_off53_inb : ∀ (v538 : BitVec 32) (v540 : BitVec 32) (v542 : BitVec 32) (k0_hw26 : k0_chk26 v538 v540 v542), ∀ a, (k0_off53 v538 v540 v542) a + S1x128.size a ≤ S16x100000.size a := fun v538 v540 v542 k0_hw26 => k0_hw26.2

def k0_off54 (i : grid0.Coords) : Fin 2 → Nat :=
  let arg0 : BitVec 32 := BitVec.ofNat 32 (i 0).val
  let c16_i32_211 : BitVec 32 := 16#32
  let v577 : BitVec 32 := Scalar.muli arg0 c16_i32_211
  let c13_i32 : BitVec 32 := 13#32
  let v578 : BitVec 32 := Scalar.addi v577 c13_i32
  let v579 : Index := Scalar.indexCast v578
  let c0_212 : Index := 0#32
  ![v579.toNat, 0]
def k0_off55 (i : grid0.Coords) : Fin 2 → Nat :=
  let arg0 : BitVec 32 := BitVec.ofNat 32 (i 0).val
  let c16_i32_211 : BitVec 32 := 16#32
  let v577 : BitVec 32 := Scalar.muli arg0 c16_i32_211
  let c13_i32 : BitVec 32 := 13#32
  let v578 : BitVec 32 := Scalar.addi v577 c13_i32
  let v581 : Index := Scalar.indexCast v578
  let c1_213 : Index := 1#32
  ![v581.toNat, 1]
def k0_off56 (v580 : BitVec 32) : Fin 1 → Nat :=
  let v583 : Index := Scalar.indexCast v580
  ![v583.toNat]

def k0_chk27 (v580 : BitVec 32) : Prop :=
  (∀ a, (k0_off56 v580) a + S1.size a ≤ S11.size a)
theorem k0_off56_inb : ∀ (v580 : BitVec 32) (k0_hw27 : k0_chk27 v580), ∀ a, (k0_off56 v580) a + S1.size a ≤ S11.size a := fun v580 k0_hw27 => k0_hw27

def k0_mult14 (v580 : BitVec 32) (v582 : BitVec 32) (v584 : BitVec 32) : BitVec 32 :=
  let v585 : BitVec 32 := Scalar.addi v584 v580
  let v586 : BitVec 32 := Scalar.addi v585 v582
  let c0_i32_215 : BitVec 32 := 0#32
  let v588 : BitVec 1 := Scalar.cmpi .sgt v586 c0_i32_215
  let v589 : BitVec 32 := Scalar.extui v588
  let c0_i32_216 : BitVec 32 := 0#32
  let v590 : BitVec 1 := Scalar.cmpi .slt v586 c0_i32_216
  let v591 : BitVec 32 := Scalar.extui v590
  let v592 : BitVec 32 := Scalar.subi v589 v591
  let c128_i32_214 : BitVec 32 := 128#32
  let c0_i32_217 : BitVec 32 := 0#32
  let v593 : BitVec 1 := Scalar.cmpi .sgt c128_i32_214 c0_i32_217
  let v594 : BitVec 32 := Scalar.extui v593
  let c0_i32_218 : BitVec 32 := 0#32
  let v595 : BitVec 1 := Scalar.cmpi .slt c128_i32_214 c0_i32_218
  let v596 : BitVec 32 := Scalar.extui v595
  let v597 : BitVec 32 := Scalar.subi v594 v596
  let v598 : BitVec 1 := Scalar.cmpi .ne v592 v597
  let v599 : BitVec 32 := Scalar.remsi v586 c128_i32_214
  let c0_i32_219 : BitVec 32 := 0#32
  let v600 : BitVec 1 := Scalar.cmpi .ne v599 c0_i32_219
  let v601 : BitVec 1 := Scalar.andi v598 v600
  let v587 : BitVec 32 := Scalar.divsi v586 c128_i32_214
  let c1_i32_220 : BitVec 32 := 1#32
  let v602 : BitVec 32 := Scalar.subi v587 c1_i32_220
  let v603 : BitVec 32 := Scalar.select v601 v602 v587
  let c128_i32_221 : BitVec 32 := 128#32
  let v604 : BitVec 32 := Scalar.muli v603 c128_i32_221
  v604

def k0_off57 (v580 : BitVec 32) (v582 : BitVec 32) (v584 : BitVec 32) : Fin 2 → Nat :=
  let c13 : Index := 13#32
  let v585 : BitVec 32 := Scalar.addi v584 v580
  let v586 : BitVec 32 := Scalar.addi v585 v582
  let c0_i32_215 : BitVec 32 := 0#32
  let v588 : BitVec 1 := Scalar.cmpi .sgt v586 c0_i32_215
  let v589 : BitVec 32 := Scalar.extui v588
  let c0_i32_216 : BitVec 32 := 0#32
  let v590 : BitVec 1 := Scalar.cmpi .slt v586 c0_i32_216
  let v591 : BitVec 32 := Scalar.extui v590
  let v592 : BitVec 32 := Scalar.subi v589 v591
  let c128_i32_214 : BitVec 32 := 128#32
  let c0_i32_217 : BitVec 32 := 0#32
  let v593 : BitVec 1 := Scalar.cmpi .sgt c128_i32_214 c0_i32_217
  let v594 : BitVec 32 := Scalar.extui v593
  let c0_i32_218 : BitVec 32 := 0#32
  let v595 : BitVec 1 := Scalar.cmpi .slt c128_i32_214 c0_i32_218
  let v596 : BitVec 32 := Scalar.extui v595
  let v597 : BitVec 32 := Scalar.subi v594 v596
  let v598 : BitVec 1 := Scalar.cmpi .ne v592 v597
  let v599 : BitVec 32 := Scalar.remsi v586 c128_i32_214
  let c0_i32_219 : BitVec 32 := 0#32
  let v600 : BitVec 1 := Scalar.cmpi .ne v599 c0_i32_219
  let v601 : BitVec 1 := Scalar.andi v598 v600
  let v587 : BitVec 32 := Scalar.divsi v586 c128_i32_214
  let c1_i32_220 : BitVec 32 := 1#32
  let v602 : BitVec 32 := Scalar.subi v587 c1_i32_220
  let v603 : BitVec 32 := Scalar.select v601 v602 v587
  let c128_i32_221 : BitVec 32 := 128#32
  let v604 : BitVec 32 := Scalar.muli v603 c128_i32_221
  let v605 : BitVec 32 := v604
  let v607 : Index := Scalar.indexCast v605
  ![13, v607.toNat]

def k0_chk28 (v580 : BitVec 32) (v582 : BitVec 32) (v584 : BitVec 32) : Prop :=
  (128 ∣ (k0_mult14 v580 v582 v584).toNat) ∧
  (∀ a, (k0_off57 v580 v582 v584) a + S1x128.size a ≤ S16x100000.size a)
theorem k0_mult14_dvd : ∀ (v580 : BitVec 32) (v582 : BitVec 32) (v584 : BitVec 32) (k0_hw28 : k0_chk28 v580 v582 v584), 128 ∣ (k0_mult14 v580 v582 v584).toNat := fun v580 v582 v584 k0_hw28 => k0_hw28.1
theorem k0_off57_inb : ∀ (v580 : BitVec 32) (v582 : BitVec 32) (v584 : BitVec 32) (k0_hw28 : k0_chk28 v580 v582 v584), ∀ a, (k0_off57 v580 v582 v584) a + S1x128.size a ≤ S16x100000.size a := fun v580 v582 v584 k0_hw28 => k0_hw28.2

def k0_off58 (i : grid0.Coords) : Fin 2 → Nat :=
  let arg0 : BitVec 32 := BitVec.ofNat 32 (i 0).val
  let c16_i32_226 : BitVec 32 := 16#32
  let v619 : BitVec 32 := Scalar.muli arg0 c16_i32_226
  let c14_i32 : BitVec 32 := 14#32
  let v620 : BitVec 32 := Scalar.addi v619 c14_i32
  let v621 : Index := Scalar.indexCast v620
  let c0_227 : Index := 0#32
  ![v621.toNat, 0]
def k0_off59 (i : grid0.Coords) : Fin 2 → Nat :=
  let arg0 : BitVec 32 := BitVec.ofNat 32 (i 0).val
  let c16_i32_226 : BitVec 32 := 16#32
  let v619 : BitVec 32 := Scalar.muli arg0 c16_i32_226
  let c14_i32 : BitVec 32 := 14#32
  let v620 : BitVec 32 := Scalar.addi v619 c14_i32
  let v623 : Index := Scalar.indexCast v620
  let c1_228 : Index := 1#32
  ![v623.toNat, 1]
def k0_off60 (v622 : BitVec 32) : Fin 1 → Nat :=
  let v625 : Index := Scalar.indexCast v622
  ![v625.toNat]

def k0_chk29 (v622 : BitVec 32) : Prop :=
  (∀ a, (k0_off60 v622) a + S1.size a ≤ S11.size a)
theorem k0_off60_inb : ∀ (v622 : BitVec 32) (k0_hw29 : k0_chk29 v622), ∀ a, (k0_off60 v622) a + S1.size a ≤ S11.size a := fun v622 k0_hw29 => k0_hw29

def k0_mult15 (v622 : BitVec 32) (v624 : BitVec 32) (v626 : BitVec 32) : BitVec 32 :=
  let v627 : BitVec 32 := Scalar.addi v626 v622
  let v628 : BitVec 32 := Scalar.addi v627 v624
  let c0_i32_230 : BitVec 32 := 0#32
  let v630 : BitVec 1 := Scalar.cmpi .sgt v628 c0_i32_230
  let v631 : BitVec 32 := Scalar.extui v630
  let c0_i32_231 : BitVec 32 := 0#32
  let v632 : BitVec 1 := Scalar.cmpi .slt v628 c0_i32_231
  let v633 : BitVec 32 := Scalar.extui v632
  let v634 : BitVec 32 := Scalar.subi v631 v633
  let c128_i32_229 : BitVec 32 := 128#32
  let c0_i32_232 : BitVec 32 := 0#32
  let v635 : BitVec 1 := Scalar.cmpi .sgt c128_i32_229 c0_i32_232
  let v636 : BitVec 32 := Scalar.extui v635
  let c0_i32_233 : BitVec 32 := 0#32
  let v637 : BitVec 1 := Scalar.cmpi .slt c128_i32_229 c0_i32_233
  let v638 : BitVec 32 := Scalar.extui v637
  let v639 : BitVec 32 := Scalar.subi v636 v638
  let v640 : BitVec 1 := Scalar.cmpi .ne v634 v639
  let v641 : BitVec 32 := Scalar.remsi v628 c128_i32_229
  let c0_i32_234 : BitVec 32 := 0#32
  let v642 : BitVec 1 := Scalar.cmpi .ne v641 c0_i32_234
  let v643 : BitVec 1 := Scalar.andi v640 v642
  let v629 : BitVec 32 := Scalar.divsi v628 c128_i32_229
  let c1_i32_235 : BitVec 32 := 1#32
  let v644 : BitVec 32 := Scalar.subi v629 c1_i32_235
  let v645 : BitVec 32 := Scalar.select v643 v644 v629
  let c128_i32_236 : BitVec 32 := 128#32
  let v646 : BitVec 32 := Scalar.muli v645 c128_i32_236
  v646

def k0_off61 (v622 : BitVec 32) (v624 : BitVec 32) (v626 : BitVec 32) : Fin 2 → Nat :=
  let c14 : Index := 14#32
  let v627 : BitVec 32 := Scalar.addi v626 v622
  let v628 : BitVec 32 := Scalar.addi v627 v624
  let c0_i32_230 : BitVec 32 := 0#32
  let v630 : BitVec 1 := Scalar.cmpi .sgt v628 c0_i32_230
  let v631 : BitVec 32 := Scalar.extui v630
  let c0_i32_231 : BitVec 32 := 0#32
  let v632 : BitVec 1 := Scalar.cmpi .slt v628 c0_i32_231
  let v633 : BitVec 32 := Scalar.extui v632
  let v634 : BitVec 32 := Scalar.subi v631 v633
  let c128_i32_229 : BitVec 32 := 128#32
  let c0_i32_232 : BitVec 32 := 0#32
  let v635 : BitVec 1 := Scalar.cmpi .sgt c128_i32_229 c0_i32_232
  let v636 : BitVec 32 := Scalar.extui v635
  let c0_i32_233 : BitVec 32 := 0#32
  let v637 : BitVec 1 := Scalar.cmpi .slt c128_i32_229 c0_i32_233
  let v638 : BitVec 32 := Scalar.extui v637
  let v639 : BitVec 32 := Scalar.subi v636 v638
  let v640 : BitVec 1 := Scalar.cmpi .ne v634 v639
  let v641 : BitVec 32 := Scalar.remsi v628 c128_i32_229
  let c0_i32_234 : BitVec 32 := 0#32
  let v642 : BitVec 1 := Scalar.cmpi .ne v641 c0_i32_234
  let v643 : BitVec 1 := Scalar.andi v640 v642
  let v629 : BitVec 32 := Scalar.divsi v628 c128_i32_229
  let c1_i32_235 : BitVec 32 := 1#32
  let v644 : BitVec 32 := Scalar.subi v629 c1_i32_235
  let v645 : BitVec 32 := Scalar.select v643 v644 v629
  let c128_i32_236 : BitVec 32 := 128#32
  let v646 : BitVec 32 := Scalar.muli v645 c128_i32_236
  let v647 : BitVec 32 := v646
  let v649 : Index := Scalar.indexCast v647
  ![14, v649.toNat]

def k0_chk30 (v622 : BitVec 32) (v624 : BitVec 32) (v626 : BitVec 32) : Prop :=
  (128 ∣ (k0_mult15 v622 v624 v626).toNat) ∧
  (∀ a, (k0_off61 v622 v624 v626) a + S1x128.size a ≤ S16x100000.size a)
theorem k0_mult15_dvd : ∀ (v622 : BitVec 32) (v624 : BitVec 32) (v626 : BitVec 32) (k0_hw30 : k0_chk30 v622 v624 v626), 128 ∣ (k0_mult15 v622 v624 v626).toNat := fun v622 v624 v626 k0_hw30 => k0_hw30.1
theorem k0_off61_inb : ∀ (v622 : BitVec 32) (v624 : BitVec 32) (v626 : BitVec 32) (k0_hw30 : k0_chk30 v622 v624 v626), ∀ a, (k0_off61 v622 v624 v626) a + S1x128.size a ≤ S16x100000.size a := fun v622 v624 v626 k0_hw30 => k0_hw30.2

def k0_off62 (i : grid0.Coords) : Fin 2 → Nat :=
  let arg0 : BitVec 32 := BitVec.ofNat 32 (i 0).val
  let c16_i32_241 : BitVec 32 := 16#32
  let v661 : BitVec 32 := Scalar.muli arg0 c16_i32_241
  let c15_i32 : BitVec 32 := 15#32
  let v662 : BitVec 32 := Scalar.addi v661 c15_i32
  let v663 : Index := Scalar.indexCast v662
  let c0_242 : Index := 0#32
  ![v663.toNat, 0]
def k0_off63 (i : grid0.Coords) : Fin 2 → Nat :=
  let arg0 : BitVec 32 := BitVec.ofNat 32 (i 0).val
  let c16_i32_241 : BitVec 32 := 16#32
  let v661 : BitVec 32 := Scalar.muli arg0 c16_i32_241
  let c15_i32 : BitVec 32 := 15#32
  let v662 : BitVec 32 := Scalar.addi v661 c15_i32
  let v665 : Index := Scalar.indexCast v662
  let c1_243 : Index := 1#32
  ![v665.toNat, 1]
def k0_off64 (v664 : BitVec 32) : Fin 1 → Nat :=
  let v667 : Index := Scalar.indexCast v664
  ![v667.toNat]

def k0_chk31 (v664 : BitVec 32) : Prop :=
  (∀ a, (k0_off64 v664) a + S1.size a ≤ S11.size a)
theorem k0_off64_inb : ∀ (v664 : BitVec 32) (k0_hw31 : k0_chk31 v664), ∀ a, (k0_off64 v664) a + S1.size a ≤ S11.size a := fun v664 k0_hw31 => k0_hw31

def k0_mult16 (v664 : BitVec 32) (v666 : BitVec 32) (v668 : BitVec 32) : BitVec 32 :=
  let v669 : BitVec 32 := Scalar.addi v668 v664
  let v670 : BitVec 32 := Scalar.addi v669 v666
  let c0_i32_245 : BitVec 32 := 0#32
  let v672 : BitVec 1 := Scalar.cmpi .sgt v670 c0_i32_245
  let v673 : BitVec 32 := Scalar.extui v672
  let c0_i32_246 : BitVec 32 := 0#32
  let v674 : BitVec 1 := Scalar.cmpi .slt v670 c0_i32_246
  let v675 : BitVec 32 := Scalar.extui v674
  let v676 : BitVec 32 := Scalar.subi v673 v675
  let c128_i32_244 : BitVec 32 := 128#32
  let c0_i32_247 : BitVec 32 := 0#32
  let v677 : BitVec 1 := Scalar.cmpi .sgt c128_i32_244 c0_i32_247
  let v678 : BitVec 32 := Scalar.extui v677
  let c0_i32_248 : BitVec 32 := 0#32
  let v679 : BitVec 1 := Scalar.cmpi .slt c128_i32_244 c0_i32_248
  let v680 : BitVec 32 := Scalar.extui v679
  let v681 : BitVec 32 := Scalar.subi v678 v680
  let v682 : BitVec 1 := Scalar.cmpi .ne v676 v681
  let v683 : BitVec 32 := Scalar.remsi v670 c128_i32_244
  let c0_i32_249 : BitVec 32 := 0#32
  let v684 : BitVec 1 := Scalar.cmpi .ne v683 c0_i32_249
  let v685 : BitVec 1 := Scalar.andi v682 v684
  let v671 : BitVec 32 := Scalar.divsi v670 c128_i32_244
  let c1_i32_250 : BitVec 32 := 1#32
  let v686 : BitVec 32 := Scalar.subi v671 c1_i32_250
  let v687 : BitVec 32 := Scalar.select v685 v686 v671
  let c128_i32_251 : BitVec 32 := 128#32
  let v688 : BitVec 32 := Scalar.muli v687 c128_i32_251
  v688

def k0_off65 (v664 : BitVec 32) (v666 : BitVec 32) (v668 : BitVec 32) : Fin 2 → Nat :=
  let c15 : Index := 15#32
  let v669 : BitVec 32 := Scalar.addi v668 v664
  let v670 : BitVec 32 := Scalar.addi v669 v666
  let c0_i32_245 : BitVec 32 := 0#32
  let v672 : BitVec 1 := Scalar.cmpi .sgt v670 c0_i32_245
  let v673 : BitVec 32 := Scalar.extui v672
  let c0_i32_246 : BitVec 32 := 0#32
  let v674 : BitVec 1 := Scalar.cmpi .slt v670 c0_i32_246
  let v675 : BitVec 32 := Scalar.extui v674
  let v676 : BitVec 32 := Scalar.subi v673 v675
  let c128_i32_244 : BitVec 32 := 128#32
  let c0_i32_247 : BitVec 32 := 0#32
  let v677 : BitVec 1 := Scalar.cmpi .sgt c128_i32_244 c0_i32_247
  let v678 : BitVec 32 := Scalar.extui v677
  let c0_i32_248 : BitVec 32 := 0#32
  let v679 : BitVec 1 := Scalar.cmpi .slt c128_i32_244 c0_i32_248
  let v680 : BitVec 32 := Scalar.extui v679
  let v681 : BitVec 32 := Scalar.subi v678 v680
  let v682 : BitVec 1 := Scalar.cmpi .ne v676 v681
  let v683 : BitVec 32 := Scalar.remsi v670 c128_i32_244
  let c0_i32_249 : BitVec 32 := 0#32
  let v684 : BitVec 1 := Scalar.cmpi .ne v683 c0_i32_249
  let v685 : BitVec 1 := Scalar.andi v682 v684
  let v671 : BitVec 32 := Scalar.divsi v670 c128_i32_244
  let c1_i32_250 : BitVec 32 := 1#32
  let v686 : BitVec 32 := Scalar.subi v671 c1_i32_250
  let v687 : BitVec 32 := Scalar.select v685 v686 v671
  let c128_i32_251 : BitVec 32 := 128#32
  let v688 : BitVec 32 := Scalar.muli v687 c128_i32_251
  let v689 : BitVec 32 := v688
  let v691 : Index := Scalar.indexCast v689
  ![15, v691.toNat]

def k0_chk32 (v664 : BitVec 32) (v666 : BitVec 32) (v668 : BitVec 32) : Prop :=
  (128 ∣ (k0_mult16 v664 v666 v668).toNat) ∧
  (∀ a, (k0_off65 v664 v666 v668) a + S1x128.size a ≤ S16x100000.size a)
theorem k0_mult16_dvd : ∀ (v664 : BitVec 32) (v666 : BitVec 32) (v668 : BitVec 32) (k0_hw32 : k0_chk32 v664 v666 v668), 128 ∣ (k0_mult16 v664 v666 v668).toNat := fun v664 v666 v668 k0_hw32 => k0_hw32.1
theorem k0_off65_inb : ∀ (v664 : BitVec 32) (v666 : BitVec 32) (v668 : BitVec 32) (k0_hw32 : k0_chk32 v664 v666 v668), ∀ a, (k0_off65 v664 v666 v668) a + S1x128.size a ≤ S16x100000.size a := fun v664 v666 v668 k0_hw32 => k0_hw32.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1024x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S11 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x100000 : Shape := ⟨2, ![1024, 100000]⟩
abbrev S1024x2 : Shape := ⟨2, ![1024, 2]⟩
abbrev S11 : Shape := ⟨1, ![11]⟩
abbrev S1024x1 : Shape := ⟨2, ![1024, 1]⟩
abbrev S1024 : Shape := ⟨1, ![1024]⟩
abbrev S_ : Shape := ⟨0, ![]⟩
abbrev S1 : Shape := ⟨1, ![1]⟩
abbrev S1x1 : Shape := ⟨2, ![1, 1]⟩
abbrev S1024x1x1 : Shape := ⟨3, ![1024, 1, 1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x2, .i32⟩
  | .hbm, ⟨2, _⟩ => ⟨S11, .i32⟩
  | .hbm, ⟨3, _⟩ => ⟨S1024x1, .i32⟩
  | .hbm, ⟨4, _⟩ => ⟨S1024, .i32⟩
  | .hbm, ⟨5, _⟩ => ⟨S1024x1, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x1, .f32⟩
  | .hbm, ⟨37, _⟩ => ⟨S1024x100000, .f32⟩
  | .hbm, ⟨38, _⟩ => ⟨S1024x100000, .f32⟩
  | .hbm, ⟨39, _⟩ => ⟨S1024x100000, .f32⟩
  | .hbm, ⟨40, _⟩ => ⟨S_, .f32⟩
  | .hbm, ⟨41, _⟩ => ⟨S1024, .f32⟩
  | .hbm, ⟨42, _⟩ => ⟨S1024x1, .f32⟩
  | .hbm, ⟨43, _⟩ => ⟨S1024x1, .f32⟩
  | .hbm, ⟨44, _⟩ => ⟨S1024x100000, .f32⟩
  | .hbm, ⟨45, _⟩ => ⟨S1024x100000, .f32⟩
  | .hbm, ⟨46, _⟩ => ⟨S1024x1, .i32⟩
  | .hbm, ⟨47, _⟩ => ⟨S_, .i32⟩
  | .hbm, ⟨48, _⟩ => ⟨S1024x1, .i32⟩
  | .hbm, ⟨49, _⟩ => ⟨S1024x1, .i1⟩
  | .hbm, ⟨50, _⟩ => ⟨S_, .i32⟩
  | .hbm, ⟨51, _⟩ => ⟨S1024x1, .i32⟩
  | .hbm, ⟨52, _⟩ => ⟨S1024x1, .i32⟩
  | .hbm, ⟨53, _⟩ => ⟨S1024x1, .i32⟩
  | .hbm, ⟨54, _⟩ => ⟨S1024x1x1, .i32⟩
  | .hbm, ⟨55, _⟩ => ⟨S1, .i32⟩
  | .hbm, ⟨56, _⟩ => ⟨S_, .i32⟩
  | .hbm, ⟨57, _⟩ => ⟨S1024x1x1, .i32⟩
  | .hbm, ⟨58, _⟩ => ⟨S1024x1x1, .i1⟩
  | .hbm, ⟨59, _⟩ => ⟨S1x1x1, .i32⟩
  | .hbm, ⟨60, _⟩ => ⟨S1024x1x1, .i32⟩
  | .hbm, ⟨61, _⟩ => ⟨S1024x1x1, .i1⟩
  | .hbm, ⟨62, _⟩ => ⟨S1024x1x1, .i1⟩
  | .hbm, ⟨63, _⟩ => ⟨S_, .i1⟩
  | .hbm, ⟨64, _⟩ => ⟨S1024x1, .i1⟩
  | .hbm, ⟨65, _⟩ => ⟨S1024x1, .f32⟩
  | .hbm, ⟨66, _⟩ => ⟨S_, .f32⟩
  | .hbm, ⟨67, _⟩ => ⟨S1024x1, .f32⟩
  | .hbm, ⟨68, _⟩ => ⟨S1024x1, .f32⟩
  | .hbm, ⟨69, _⟩ => ⟨S1024, .f32⟩
  | .hbm, ⟨70, _⟩ => ⟨S1024x100000, .f32⟩
  | .hbm, ⟨71, _⟩ => ⟨S1024x100000, .f32⟩
  | .hbm, ⟨72, _⟩ => ⟨S_, .f32⟩
  | .hbm, ⟨73, _⟩ => ⟨S1024, .f32⟩
  | .hbm, ⟨74, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_c_4 : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v7 : Ref sig .tc := ⟨.hbm, 45, rfl⟩
abbrev main_v8 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_cst : Ref sig .tc := ⟨.hbm, 72, rfl⟩
abbrev main_v13 : Ref sig .tc := ⟨.hbm, 73, rfl⟩
abbrev main_v14 : Ref sig .tc := ⟨.hbm, 74, rfl⟩

abbrev nD : Nat := 1
abbrev τ : Topo := Topo.v7x

variable {F : FTy → Type} [FloatOps F]
-- ==== Proof.Words.lean ====
/- The words of the action table. An action (a, p) of a row names the logit of number `cum[a] + a + p` of that row
   (32-bit words, wrapping). The kernel reads the group of 128 lanes that holds it, at the multiple of 128 below the
   number, and picks the lane that is left over. This module states these words, and what the range condition on
   the number says of them. -/
module

public import Idealize.ShloMosaic.PureOps
public import Idealize.ShloMosaic.Lib.WordArith
public import Idealize.ShloMosaic.Lib.ValueIdxCore

@[expose] public section

namespace Cert.Words

open Idealize.ShloMosaic Idealize.ShloMosaic.ValueIdx

/-- The action table, 1024 rows of two words, and the offset table, 11 words. -/
abbrev SAct : Shape := ⟨2, ![1024, 2]⟩
abbrev SCum : Shape := ⟨1, ![11]⟩

/-- The number of the logit that the action (a, p) names, `t` the word of the offset table at `a`. -/
def flat (a p t : BitVec 32) : BitVec 32 := Scalar.addi (Scalar.addi t a) p

/-- The multiple of 128 below `w`, as the kernel computes it: the quotient rounded toward zero, less one where the
    signs differ and the remainder is not zero, times 128. -/
def base (w : BitVec 32) : BitVec 32 :=
  Scalar.muli
    (Scalar.select
      (Scalar.andi
        (Scalar.cmpi .ne
          (Scalar.subi (Scalar.extui (Scalar.cmpi .sgt w 0#32)) (Scalar.extui (Scalar.cmpi .slt w 0#32)))
          (Scalar.subi (Scalar.extui (Scalar.cmpi .sgt 128#32 0#32)) (Scalar.extui (Scalar.cmpi .slt 128#32 0#32))))
        (Scalar.cmpi .ne (Scalar.remsi w 128#32) 0#32))
      (Scalar.subi (Scalar.divsi w 128#32) 1#32)
      (Scalar.divsi w 128#32))
    128#32

/-- The lane of `w` in its group. -/
def lane (w : BitVec 32) : BitVec 32 := Scalar.subi w (base w)

/-- The table's actions are in range: each row's first word is below 11, and the number that its action names is
    below 99968 = 781 · 128. -/
def Ok (x0 : SAct.Idx → BitVec 32) (x1 : SCum.Idx → BitVec 32) : Prop :=
  ∀ (row : Fin 1024), (x0 (ix2 row 0)).toNat < 11 ∧
    ∀ k : Fin 11, k.val = (x0 (ix2 row 0)).toNat →
      (flat (x0 (ix2 row 0)) (x0 (ix2 row 1)) (x1 (ix1 k))).toNat < 99968

/-- The quotient of a word below 99968 by 128, rounded toward zero. -/
theorem divsi_toNat (w : BitVec 32) (h : w.toNat < 99968) : (Scalar.divsi w 128#32).toNat = w.toNat / 128 := by
  have hc : ¬ IntOp.SDivCorner w 128#32 := by
    unfold IntOp.SDivCorner; rintro (h | ⟨-, h⟩) <;> exact absurd h (by decide)
  unfold Scalar.divsi IntOp.divsi
  rw [if_neg hc]
  have hm : w.msb = false := by rw [BitVec.msb_eq_false_iff_two_mul_lt]; omega
  have h128 : (128#32 : BitVec 32).msb = false := by decide
  rw [BitVec.sdiv_eq, hm, h128]
  simp

/-- Its remainder. -/
theorem remsi_toNat (w : BitVec 32) (h : w.toNat < 99968) : (Scalar.remsi w 128#32).toNat = w.toNat % 128 := by
  have hc : ¬ IntOp.SDivCorner w 128#32 := by
    unfold IntOp.SDivCorner; rintro (h | ⟨-, h⟩) <;> exact absurd h (by decide)
  unfold Scalar.remsi IntOp.remsi
  rw [if_neg hc]
  have hm : w.msb = false := by rw [BitVec.msb_eq_false_iff_two_mul_lt]; omega
  have h128 : (128#32 : BitVec 32).msb = false := by decide
  rw [BitVec.srem_eq, hm, h128]
  simp

/-- The multiple of 128 below a number in range. -/
theorem base_toNat (w : BitVec 32) (h : w.toNat < 99968) : (base w).toNat = w.toNat / 128 * 128 := by
  have hi : w.toInt = w.toNat := BitVec.toInt_eq_toNat_of_lt (by omega)
  have hslt : Scalar.cmpi .slt w 0#32 = 0#1 := by
    show BitVec.ofBool (BitVec.slt w 0#32) = 0#1
    rw [show BitVec.slt w 0#32 = false by rw [BitVec.slt, hi]; simp]; rfl
  have hsel : Scalar.andi
        (Scalar.cmpi .ne
          (Scalar.subi (Scalar.extui (Scalar.cmpi .sgt w 0#32)) (Scalar.extui (Scalar.cmpi .slt w 0#32)))
          (Scalar.subi (Scalar.extui (Scalar.cmpi .sgt 128#32 0#32)) (Scalar.extui (Scalar.cmpi .slt 128#32 0#32))))
        (Scalar.cmpi .ne (Scalar.remsi w 128#32) 0#32) = 0#1 := by
    by_cases h0 : w.toNat = 0
    · have : w = 0#32 := BitVec.eq_of_toNat_eq (by simpa using h0)
      subst this; decide
    · have hsgt : Scalar.cmpi .sgt w 0#32 = 1#1 := by
        show BitVec.ofBool (BitVec.slt 0#32 w) = 1#1
        rw [show BitVec.slt 0#32 w = true by rw [BitVec.slt, hi]; simp; omega]; rfl
      rw [hslt, hsgt]
      generalize Scalar.cmpi .ne (Scalar.remsi w 128#32) 0#32 = b
      revert b; decide
  unfold base
  rw [hsel, show ∀ x y : BitVec 32, Scalar.select 0#1 x y = y from fun _ _ => rfl]
  show (Scalar.divsi w 128#32 * 128#32).toNat = _
  rw [BitVec.toNat_mul, divsi_toNat w h]
  simp; omega

/-- The lane of a number in range. -/
theorem lane_toNat (w : BitVec 32) (h : w.toNat < 99968) : (lane w).toNat = w.toNat % 128 := by
  have hb := base_toNat w h
  show (w - base w).toNat = _
  rw [BitVec.toNat_sub, hb]; omega

end Cert.Words
-- ==== Proof.Block.lean ====
/- What one block of the kernel computes: a block is 16 rows of 100000 logits, and the block `i` of the grid has the
   rows 16 i … 16 i + 15 of the arrays. The three results of the block as functions of the block's logits, of the
   action table and of the offset table, with no memory in them; and the body's triple, which says the body leaves
   exactly these in its three output buffers. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Words

@[expose] public section

set_option maxRecDepth 16384

noncomputable section

namespace Cert.KernelIdeal.Block

open Cert.KernelIdeal Cert.KernelIdeal.Gen Cert.Words
open Idealize.ShloMosaic Idealize.ShloMosaic.TcCoe Idealize.ShloMosaic.ValueIdx

variable {F : FTy → Type} [FloatOps F]

/-! ## The three results, from the block's logits -/

/-- The group of 1024 lanes number `k`. -/
def chunk (x2 : Vec F S16x100000 .f32) (k : Nat) : Vec F S16x1024 .f32 :=
  fun j => x2 (ix2 (j 0) (Fin.ofNat 100000 (k * 1024 + (j 1).val)))

/-- The 672 lanes after the 97 groups. -/
def tail (x2 : Vec F S16x100000 .f32) : Vec F S16x672 .f32 :=
  fun j => x2 (ix2 (j 0) (Fin.ofNat 100000 (99328 + (j 1).val)))

/-- The two running sums, lane by lane, after `k` groups: of exp(x - max), and of exp(x - max) (x - max). -/
def sums (x2 : Vec F S16x100000 .f32) : Nat → FVec F S16x1024 .f32 × FVec F S16x1024 .f32
  | 0 => (k0_pay3, k0_pay4)
  | k + 1 => (k0_pay7 x2 (sums x2 k).1 (chunk x2 k), k0_pay8 x2 (sums x2 k).2 (chunk x2 k))

/-- Each row's maximum plus the logarithm of its sum of exponentials. -/
def mlz (x2 : Vec F S16x100000 .f32) : FVec F S16x1 .f32 := k0_pay13 x2 (sums x2 97).1 (tail x2)

/-- The block of log-probabilities. -/
def lp (x2 : Vec F S16x100000 .f32) : FVec F S16x100000 .f32 := k0_pay14 x2 (sums x2 97).1 (tail x2) x2

/-- The block of entropies. -/
def ent (x2 : Vec F S16x100000 .f32) : FVec F S16x1 .f32 := k0_pay15 x2 (sums x2 97).1 (sums x2 97).2 (tail x2)

/-- What is picked of a group of 128 lanes at the place `l`: the sum over the lanes of the lane's value where the lane
    is `l`, and of zero elsewhere. -/
def pick (l : BitVec 32) (ch : Vec F S1x128 .f32) : FVec F S1 .f32 :=
  multiReduction .add [1] S1
    (select (cmpi .eq (iota .tc S1x128 32 [1] iota_S1x128_d1_w32) (broadcast S1x128 l)) ch
      (broadcast S1x128 (Scalar.ofBits .f32 0x00000000#32)))
    0x00000000#32 reduces_S1x128_S1 (.inl rfl) rfl

/-- Row `r`'s group of 128 lanes from the lane `b`. -/
def lanes (x2 : Vec F S16x100000 .f32) (r : Fin 16) (b : Nat) : Vec F S1x128 .f32 :=
  fun j => x2 (ix2 r (Fin.ofNat 100000 (b + (j 1).val)))

/-- The number of the logit that the action of row `row` of the table names. -/
def wordOf (x0 : Vec F S1024x2 .i32) (x1 : Vec F S11 .i32) (row : Fin 1024) : BitVec 32 :=
  flat (x0 (ix2 row 0)) (x0 (ix2 row 1)) (x1 (ix1 (Fin.ofNat 11 (BitVec.toNat (w := 32) (x0 (ix2 row 0))))))

/-- The row of the table that row `r` of block `i` is. -/
def tabRow (i : grid0.Coords) (r : Fin 16) : Fin 1024 := ⟨16 * (i 0).val + r.val, by
  have h : (i 0).val < 64 := (i 0).isLt
  omega⟩

/-- The block of selected log-probabilities: in row `r` the lane its action names, less the row's `mlz`. -/
def sel (i : grid0.Coords) (x0 : Vec F S1024x2 .i32) (x1 : Vec F S11 .i32) (x2 : Vec F S16x100000 .f32) :
    FVec F S16x1 .f32 := fun y =>
  let w := wordOf x0 x1 (tabRow i (y 0))
  FloatOps.subf (pick (lane w) (lanes x2 (y 0) (base w).toNat) (ix1 0)) (mlz x2 (ix2 (y 0) 0))

/-! ## Reads of a whole buffer -/

/-- A word of the action table, read at an offset whose second coordinate is the column. -/
theorem act_word (arg1 : Memref sig .tc .smem S1024x2 .i32) (harg1 : arg1.IsWhole) (x0 : Vec F S1024x2 .i32)
    (off : Fin 2 → Nat) (inb : ∀ a, off a + S1x1.size a ≤ S1024x2.size a) (j : S1x1.Idx) (row : Fin 1024)
    (col : Fin 2) (hr : off 0 = row.val) (hc : off 1 = col.val) :
    arg1.view.readAt (Elt F) (Rect.unit (s := S1024x2) off S1x1.size inb).toLoadRect (harg1.unread x0) j
      = x0 (ix2 row col) := by
  rw [View.readAt_apply, harg1.read_unread]
  congr 1
  funext a
  apply Fin.ext
  match a with
  | ⟨0, _⟩ =>
    have : (j 0).val = 0 := by have := (j 0).isLt; simp [S1x1] at this; omega
    show off 0 + 1 * (j 0).val = row.val; omega
  | ⟨1, _⟩ =>
    have : (j 1).val = 0 := by have := (j 1).isLt; simp [S1x1] at this; omega
    show off 1 + 1 * (j 1).val = col.val; omega

/-- A word of the offset table. -/
theorem cum_word (arg2 : Memref sig .tc .smem S11 .i32) (harg2 : arg2.IsWhole) (x1 : Vec F S11 .i32)
    (off : Fin 1 → Nat) (inb : ∀ a, off a + S1.size a ≤ S11.size a) (j : S1.Idx) (k : Fin 11) (hk : off 0 = k.val) :
    arg2.view.readAt (Elt F) (Rect.unit (s := S11) off S1.size inb).toLoadRect (harg2.unread x1) j
      = x1 (ix1 k) := by
  rw [View.readAt_apply, harg2.read_unread]
  congr 1
  funext a
  apply Fin.ext
  match a with
  | ⟨0, _⟩ =>
    have : (j 0).val = 0 := by have := (j 0).isLt; simp [S1] at this; omega
    show off 0 + 1 * (j 0).val = k.val; omega

/-- All of a whole buffer read back. -/
theorem read_all (arg3 : Memref sig .tc .vmem S16x100000 .f32) (harg3 : arg3.IsWhole) (x2 : Vec F S16x100000 .f32)
    (inb : ∀ a, (![0, 0] : Fin 2 → Nat) a + S16x100000.size a ≤ S16x100000.size a) :
    arg3.view.readAt (Elt F) (Rect.unit (s := S16x100000) ![0, 0] S16x100000.size inb).toLoadRect (harg3.unread x2) = x2 := by
  funext j
  rw [View.readAt_apply, harg3.read_unread]
  congr 1
  funext a
  apply Fin.ext
  match a with
  | ⟨0, _⟩ => show 0 + 1 * (j 0).val = (j 0).val; omega
  | ⟨1, _⟩ => show 0 + 1 * (j 1).val = (j 1).val; omega

/-- A group of 1024 lanes read at its offset. -/
theorem read_chunk (arg3 : Memref sig .tc .vmem S16x100000 .f32) (harg3 : arg3.IsWhole) (x2 : Vec F S16x100000 .f32)
    (off : Fin 2 → Nat) (inb : ∀ a, off a + S16x1024.size a ≤ S16x100000.size a) (k : Nat)
    (h0 : off 0 = 0) (h1 : off 1 = k * 1024) :
    arg3.view.readAt (Elt F) (Rect.unit (s := S16x100000) off S16x1024.size inb).toLoadRect (harg3.unread x2) = chunk x2 k := by
  have hb : off 1 + 1024 ≤ 100000 := inb 1
  funext j
  have hj : (j 1).val < 1024 := (j 1).isLt
  rw [View.readAt_apply, harg3.read_unread]
  unfold chunk
  congr 1
  funext a
  apply Fin.ext
  match a with
  | ⟨0, _⟩ => show off 0 + 1 * (j 0).val = (j 0).val; omega
  | ⟨1, _⟩ => show off 1 + 1 * (j 1).val = (k * 1024 + (j 1).val) % 100000; omega

/-- The last 672 lanes. -/
theorem read_tail (arg3 : Memref sig .tc .vmem S16x100000 .f32) (harg3 : arg3.IsWhole) (x2 : Vec F S16x100000 .f32)
    (inb : ∀ a, (![0, 99328] : Fin 2 → Nat) a + S16x672.size a ≤ S16x100000.size a) :
    arg3.view.readAt (Elt F) (Rect.unit (s := S16x100000) ![0, 99328] S16x672.size inb).toLoadRect (harg3.unread x2) = tail x2 := by
  funext j
  have hj : (j 1).val < 672 := (j 1).isLt
  rw [View.readAt_apply, harg3.read_unread]
  unfold tail
  congr 1
  funext a
  apply Fin.ext
  match a with
  | ⟨0, _⟩ => show 0 + 1 * (j 0).val = (j 0).val; omega
  | ⟨1, _⟩ => show 99328 + 1 * (j 1).val = (99328 + (j 1).val) % 100000; omega

/-- A row's group of 128 lanes. -/
theorem read_lanes (arg3 : Memref sig .tc .vmem S16x100000 .f32) (harg3 : arg3.IsWhole) (x2 : Vec F S16x100000 .f32)
    (off : Fin 2 → Nat) (inb : ∀ a, off a + S1x128.size a ≤ S16x100000.size a) (r : Fin 16) (b : Nat)
    (h0 : off 0 = r.val) (h1 : off 1 = b) :
    arg3.view.readAt (Elt F) (Rect.unit (s := S16x100000) off S1x128.size inb).toLoadRect (harg3.unread x2) = lanes x2 r b := by
  have hb : off 1 + 128 ≤ 100000 := inb 1
  funext j
  have hj : (j 1).val < 128 := (j 1).isLt
  have hj0 : (j 0).val < 1 := (j 0).isLt
  rw [View.readAt_apply, harg3.read_unread]
  unfold lanes
  congr 1
  funext a
  apply Fin.ext
  match a with
  | ⟨0, _⟩ => show off 0 + 1 * (j 0).val = r.val; omega
  | ⟨1, _⟩ => show off 1 + 1 * (j 1).val = (b + (j 1).val) % 100000; omega

/-! ## The running sums are the loop's carried values -/

theorem trips_eq : k0_t1_loop.trips = 97 := by decide

theorem off1_eq : ∀ k : Fin k0_t1_loop.trips, k0_off1 k 1 = k.val * 1024 := by decide

theorem loop_state (c : Dev nD) (i : grid0.Coords) (arg1 : Memref sig .tc .smem S1024x2 .i32) (harg1 : arg1.IsWhole)
    (arg2 : Memref sig .tc .smem S11 .i32) (harg2 : arg2.IsWhole) (arg3 : Memref sig .tc .vmem S16x100000 .f32)
    (harg3 : arg3.IsWhole) (arg4 : Memref sig .tc .vmem S16x100000 .f32) (harg4 : arg4.IsWhole)
    (arg5 : Memref sig .tc .vmem S16x1 .f32) (harg5 : arg5.IsWhole) (arg6 : Memref sig .tc .vmem S16x1 .f32)
    (harg6 : arg6.IsWhole) (x2 : Vec F S16x100000 .f32) (n : Nat) (hn : n ≤ 97) :
    st_k0_t1 (F := F) Variants.none c none i arg1 harg1 arg2 harg2 arg3 harg3 arg4 harg4 arg5 harg5 arg6 harg6 x2
      (harg3.unread x2) (k0_pay3, k0_pay4) n = sums x2 n := by
  induction n with
  | zero => rfl
  | succ n ih =>
    have hlt : n < k0_t1_loop.trips := by rw [trips_eq]; omega
    have h := st_k0_t1_succ (F := F) Variants.none c none i arg1 harg1 arg2 harg2 arg3 harg3 arg4 harg4 arg5 harg5
      arg6 harg6 x2 (harg3.unread x2) (k0_pay3, k0_pay4) ⟨n, hlt⟩
    rw [show (⟨n, hlt⟩ : Fin k0_t1_loop.trips).val = n from rfl, ih (by omega)] at h
    rw [h]
    unfold tripR_k0_t1 trip_k0_t1
    rw [sums, ← read_chunk arg3 harg3 x2 (k0_off1 ⟨n, hlt⟩) (k0_off1_inb ⟨n, hlt⟩) n rfl (off1_eq ⟨n, hlt⟩)]

/-- The loop's last carried value. -/
theorem loop_end (c : Dev nD) (i : grid0.Coords) (arg1 : Memref sig .tc .smem S1024x2 .i32) (harg1 : arg1.IsWhole)
    (arg2 : Memref sig .tc .smem S11 .i32) (harg2 : arg2.IsWhole) (arg3 : Memref sig .tc .vmem S16x100000 .f32)
    (harg3 : arg3.IsWhole) (arg4 : Memref sig .tc .vmem S16x100000 .f32) (harg4 : arg4.IsWhole)
    (arg5 : Memref sig .tc .vmem S16x1 .f32) (harg5 : arg5.IsWhole) (arg6 : Memref sig .tc .vmem S16x1 .f32)
    (harg6 : arg6.IsWhole) (x2 : Vec F S16x100000 .f32) :
    st_k0_t1 (F := F) Variants.none c none i arg1 harg1 arg2 harg2 arg3 harg3 arg4 harg4 arg5 harg5 arg6 harg6 x2
      (harg3.unread x2) (k0_pay3, k0_pay4) (Scf.trips k0_t1_loop.lb k0_t1_loop.ub k0_t1_loop.st) = sums x2 97 := by
  rw [show Scf.trips k0_t1_loop.lb k0_t1_loop.ub k0_t1_loop.st = 97 from trips_eq]
  exact loop_state c i arg1 harg1 arg2 harg2 arg3 harg3 arg4 harg4 arg5 harg5 arg6 harg6 x2 97 le_rfl

end Cert.KernelIdeal.Block
-- ==== Proof.Body.lean ====
/- The body's triple: run on a block's staging buffers with the tables' actions in range, the body leaves its inputs as
   they were and in its three output buffers the results that `Block` states. -/
module

public import proofs.«01_k».proof.Proof.Block
public import Idealize.ShloMosaic.Lib.Pipeline.Value
public import Idealize.ShloMosaic.Lib.VecWindow

@[expose] public section

set_option maxRecDepth 16384

noncomputable section

namespace Cert.KernelIdeal.Body

open Cert.KernelIdeal Cert.KernelIdeal.Gen Cert.Words Cert.KernelIdeal.Block
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {x0 : Vec F S1024x2 .i32} {x1 : Vec F S11 .i32}

/-- A first word of the table in range is a place of the offset table. -/
theorem entry_ok (hok : Ok x0 x1) (arg1 : Memref sig .tc .smem S1024x2 .i32) (harg1 : arg1.IsWhole)
    (off : Fin 2 → Nat) (inb : ∀ a, off a + S1x1.size a ≤ S1024x2.size a) (j : S1x1.Idx) (hc : off 1 = 0) :
    k0_chk1 (arg1.view.readAt (Elt F) (Rect.unit (s := S1024x2) off S1x1.size inb).toLoadRect (harg1.unread x0) j) := by
  have h0 : off 0 + 1 ≤ 1024 := inb 0
  rw [act_word arg1 harg1 x0 off inb j ⟨off 0, by omega⟩ 0 rfl hc]
  intro a
  match a with
  | ⟨0, _⟩ =>
    have := (hok ⟨off 0, by omega⟩).1
    show (x0 _ : BitVec 32).toNat + 1 ≤ 11
    omega

/-- The group of lanes of a number in range is at a multiple of 128 and inside the block. -/
theorem row_ok (hok : Ok x0 x1) (arg1 : Memref sig .tc .smem S1024x2 .i32) (harg1 : arg1.IsWhole)
    (arg2 : Memref sig .tc .smem S11 .i32) (harg2 : arg2.IsWhole)
    (off off' : Fin 2 → Nat) (inb : ∀ a, off a + S1x1.size a ≤ S1024x2.size a)
    (inb' : ∀ a, off' a + S1x1.size a ≤ S1024x2.size a) (j j' : S1x1.Idx) (off2 : Fin 1 → Nat)
    (inb2 : ∀ a, off2 a + S1.size a ≤ S11.size a) (j2 : S1.Idx) (r : Nat)
    (hc : off 1 = 0) (hc' : off' 1 = 1) (hrr : off' 0 = off 0)
    (h2 : off2 0 = BitVec.toNat (w := 32) (arg1.view.readAt (Elt F) (Rect.unit (s := S1024x2) off S1x1.size inb).toLoadRect (harg1.unread x0) j))
    (hr : r < 16) :
    (128 ∣ (base (flat (arg1.view.readAt (Elt F) (Rect.unit (s := S1024x2) off S1x1.size inb).toLoadRect (harg1.unread x0) j)
      (arg1.view.readAt (Elt F) (Rect.unit (s := S1024x2) off' S1x1.size inb').toLoadRect (harg1.unread x0) j')
      (arg2.view.readAt (Elt F) (Rect.unit (s := S11) off2 S1.size inb2).toLoadRect (harg2.unread x1) j2))).toNat) ∧
    ∀ a, (![r, (base (flat (arg1.view.readAt (Elt F) (Rect.unit (s := S1024x2) off S1x1.size inb).toLoadRect (harg1.unread x0) j)
      (arg1.view.readAt (Elt F) (Rect.unit (s := S1024x2) off' S1x1.size inb').toLoadRect (harg1.unread x0) j')
      (arg2.view.readAt (Elt F) (Rect.unit (s := S11) off2 S1.size inb2).toLoadRect (harg2.unread x1) j2))).toNat] : Fin 2 → Nat) a
        + S1x128.size a ≤ S16x100000.size a := by
  have h0 : off 0 + 1 ≤ 1024 := inb 0
  have h3 : off2 0 + 1 ≤ 11 := inb2 0
  rw [act_word arg1 harg1 x0 off inb j ⟨off 0, by omega⟩ 0 rfl hc] at *
  rw [act_word arg1 harg1 x0 off' inb' j' ⟨off 0, by omega⟩ 1 hrr hc',
    cum_word arg2 harg2 x1 off2 inb2 j2 ⟨off2 0, by omega⟩ rfl]
  have hlt := (hok ⟨off 0, by omega⟩).2 ⟨off2 0, by omega⟩ h2
  rw [base_toNat _ hlt]
  refine ⟨Dvd.intro_left _ rfl, fun a => ?_⟩
  match a with
  | ⟨0, _⟩ => show r + 1 ≤ 16; omega
  | ⟨1, _⟩ => show _ / 128 * 128 + 128 ≤ 100000; omega

/-- One row's store: its one cell is the row's cell of `sel`. The words are read from the tables, the lanes from the
    block; `v` is the rows' `mlz`. -/
theorem piece_row (hok : Ok x0 x1) (i : grid0.Coords) (r : Fin 16)
    (arg1 : Memref sig .tc .smem S1024x2 .i32) (harg1 : arg1.IsWhole)
    (arg2 : Memref sig .tc .smem S11 .i32) (harg2 : arg2.IsWhole)
    (arg3 : Memref sig .tc .vmem S16x100000 .f32) (harg3 : arg3.IsWhole) (x2 : Vec F S16x100000 .f32)
    (v : FVec F S16x1 .f32) (hv : v = mlz x2)
    (off off' : Fin 2 → Nat) (inb : ∀ a, off a + S1x1.size a ≤ S1024x2.size a)
    (inb' : ∀ a, off' a + S1x1.size a ≤ S1024x2.size a) (j j' : S1x1.Idx) (off2 : Fin 1 → Nat)
    (inb2 : ∀ a, off2 a + S1.size a ≤ S11.size a) (j2 : S1.Idx) (off3 : Fin 2 → Nat)
    (inb3 : ∀ a, off3 a + S1x128.size a ≤ S16x100000.size a)
    (hsl : S16x1.Slices ![r.val, 0] S1x1) (inb5 : ∀ a, (![r.val, 0] : Fin 2 → Nat) a + S1x1.size a ≤ S16x1.size a)
    (ho : off = ![16 * (i 0).val + r.val, 0]) (ho' : off' = ![16 * (i 0).val + r.val, 1])
    (h2 : off2 0 = BitVec.toNat (w := 32) (arg1.view.readAt (Elt F) (Rect.unit (s := S1024x2) off S1x1.size inb).toLoadRect (harg1.unread x0) j))
    (h3 : off3 0 = r.val)
    (h3' : off3 1 = (base (flat (arg1.view.readAt (Elt F) (Rect.unit (s := S1024x2) off S1x1.size inb).toLoadRect (harg1.unread x0) j)
      (arg1.view.readAt (Elt F) (Rect.unit (s := S1024x2) off' S1x1.size inb').toLoadRect (harg1.unread x0) j')
      (arg2.view.readAt (Elt F) (Rect.unit (s := S11) off2 S1.size inb2).toLoadRect (harg2.unread x1) j2))).toNat)
    (y : S1x1.Idx) :
    subf (shapeCast S1x1 (pick (lane (flat (arg1.view.readAt (Elt F) (Rect.unit (s := S1024x2) off S1x1.size inb).toLoadRect (harg1.unread x0) j)
          (arg1.view.readAt (Elt F) (Rect.unit (s := S1024x2) off' S1x1.size inb').toLoadRect (harg1.unread x0) j')
          (arg2.view.readAt (Elt F) (Rect.unit (s := S11) off2 S1.size inb2).toLoadRect (harg2.unread x1) j2)))
        (arg3.view.readAt (Elt F) (Rect.unit (s := S16x100000) off3 S1x128.size inb3).toLoadRect (harg3.unread x2))) shapeCasts_S1_S1x1)
      (extractStridedSlice S1x1 ![r.val, 0] v hsl) y
      = sel i x0 x1 x2 ((Rect.unit (s := S16x1) ![r.val, 0] S1x1.size inb5).emb y) := by
  have hA := act_word (F := F) arg1 harg1 x0 off inb j (tabRow i r) 0 (by rw [ho]; rfl) (by rw [ho]; rfl)
  have hP := act_word (F := F) arg1 harg1 x0 off' inb' j' (tabRow i r) 1 (by rw [ho']; rfl) (by rw [ho']; rfl)
  have hlt := (hok (tabRow i r)).1
  have hT := cum_word (F := F) arg2 harg2 x1 off2 inb2 j2
    (Fin.ofNat 11 (BitVec.toNat (w := 32) (x0 (ix2 (tabRow i r) 0)))) (by
      rw [h2, hA]; exact (Nat.mod_eq_of_lt hlt).symm)
  rw [hA, hP, hT] at h3'
  rw [hA, hP, hT, read_lanes arg3 harg3 x2 off3 inb3 r _ h3 h3', hv]
  have hy0 : (y 0).val < 1 := (y 0).isLt
  have hy1 : (y 1).val < 1 := (y 1).isLt
  have hrow : (Rect.unit (s := S16x1) ![r.val, 0] S1x1.size inb5).emb y 0 = r := by
    apply Fin.ext
    show r.val + 1 * (y 0).val = r.val
    omega
  unfold sel
  rw [hrow]
  refine congrArg₂ FloatOps.subf ?_ ?_
  · refine Idealize.ShloMosaic.shapeCast_apply _ _ _ _ ?_
    rw [Shape.rowMajor_val_one, Shape.rowMajor_val_two]
    show 0 = (y 0).val * 1 + (y 1).val
    omega
  · refine Idealize.ShloMosaic.extractStridedSlice_apply _ _ _ _ _ fun a => ?_
    match a with
    | ⟨0, _⟩ => show r.val = r.val + (y 0).val; omega
    | ⟨1, _⟩ => show 0 = 0 + (y 1).val; omega

set_option maxHeartbeats 4000000 in
/-- THE BODY: from the tables and a block's logits, with the table's actions in range, it ends with the inputs as they
    were and with the block's log-probabilities, selected log-probabilities and entropies in its output buffers. -/
theorem body_triple (c : Dev nD) (i : grid0.Coords) (arg1 : Memref sig .tc .smem S1024x2 .i32) (harg1 : arg1.IsWhole)
    (arg2 : Memref sig .tc .smem S11 .i32) (harg2 : arg2.IsWhole) (arg3 : Memref sig .tc .vmem S16x100000 .f32)
    (harg3 : arg3.IsWhole) (arg4 : Memref sig .tc .vmem S16x100000 .f32) (harg4 : arg4.IsWhole)
    (arg5 : Memref sig .tc .vmem S16x1 .f32) (harg5 : arg5.IsWhole) (arg6 : Memref sig .tc .vmem S16x1 .f32)
    (harg6 : arg6.IsWhole) (x0 : Vec F S1024x2 .i32) (x1 : Vec F S11 .i32) (x2 : Vec F S16x100000 .f32) (hok : Ok x0 x1)
    (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (lp x2)
            ∗ owns (c : Thread nD τ) arg5 fullShare (sel i x0 x1 x2) ∗ owns (c : Thread nD τ) arg6 fullShare (ent x2)) -∗ K ⟨⟩))
      ⊢ wp frame (wpE (defs₀ (F := F)) Variants.none c none) E
        (cc0__kernel i arg1 harg1 arg2 harg2 arg3 harg3 arg4 harg4 arg5 harg5 arg6 harg6) K := by
  have hall := read_all (F := F) arg3 harg3 x2 inb_S16x100000_S16x100000_0_0
  have hloop := loop_end (F := F) c i arg1 harg1 arg2 harg2 arg3 harg3 arg4 harg4 arg5 harg5 arg6 harg6 x2
  have htail := read_tail (F := F) arg3 harg3 x2 inb_S16x100000_S16x672_0_99328
  have hmlz : k0_pay13 x2 (st_k0_t1 (F := F) Variants.none c none i arg1 harg1 arg2 harg2 arg3 harg3 arg4 harg4 arg5 harg5
      arg6 harg6 x2 (harg3.unread x2) (k0_pay3, k0_pay4)
      (Scf.trips k0_t1_loop.lb k0_t1_loop.ub k0_t1_loop.st)).1 (tail x2) = mlz x2 := by rw [hloop]; rfl
  simp only [cc0__kernel_eq_skeleton]; unfold cc0__kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first
    | exact entry_ok hok _ _ _ _ _ rfl
    | exact row_ok hok _ _ _ _ _ _ _ _ _ _ _ _ _ _ rfl rfl rfl rfl (by decide))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [hloop]
    funext y
    refine View.read_writes_apply_of_pieces (Val := Elt F) (e := .f32) _ _ (lp x2) _ ?_ y (View.cover_of_tiledL _ S16x100000.size (by sl_kernel_rfl) y)
    intro p hp x
    rw [List.mem_singleton] at hp
    subst hp
    exact congrArg (lp x2) (Rect.emb_unit_full (s := S16x100000) (off := ![0, 0]) inb_S16x100000_S16x100000_0_0 x).symm
  isplitl [H4]
  · iexists _; isplitr
    swap; · iexact H4
    ipureintro
    funext y
    refine View.read_writes_apply_of_pieces (Val := Elt F) (e := .f32) _ _ (sel i x0 x1 x2) _ ?_ y (View.cover_of_tiledL _ ![1, 1] (by sl_kernel_rfl) y)
    refine List.forall_mem_cons.2 ⟨fun x => piece_row hok i 15 arg1 harg1 arg2 harg2 arg3 harg3 x2 _ hmlz _ _ _ _ _ _ _ _ _ _ _
      slices_S16x1_o15_0_S1x1 inb_S16x1_S1x1_15_0 (k0_off62_eq i) (k0_off63_eq i) rfl rfl rfl x, ?_⟩
    refine List.forall_mem_cons.2 ⟨fun x => piece_row hok i 14 arg1 harg1 arg2 harg2 arg3 harg3 x2 _ hmlz _ _ _ _ _ _ _ _ _ _ _
      slices_S16x1_o14_0_S1x1 inb_S16x1_S1x1_14_0 (k0_off58_eq i) (k0_off59_eq i) rfl rfl rfl x, ?_⟩
    refine List.forall_mem_cons.2 ⟨fun x => piece_row hok i 13 arg1 harg1 arg2 harg2 arg3 harg3 x2 _ hmlz _ _ _ _ _ _ _ _ _ _ _
      slices_S16x1_o13_0_S1x1 inb_S16x1_S1x1_13_0 (k0_off54_eq i) (k0_off55_eq i) rfl rfl rfl x, ?_⟩
    refine List.forall_mem_cons.2 ⟨fun x => piece_row hok i 12 arg1 harg1 arg2 harg2 arg3 harg3 x2 _ hmlz _ _ _ _ _ _ _ _ _ _ _
      slices_S16x1_o12_0_S1x1 inb_S16x1_S1x1_12_0 (k0_off50_eq i) (k0_off51_eq i) rfl rfl rfl x, ?_⟩
    refine List.forall_mem_cons.2 ⟨fun x => piece_row hok i 11 arg1 harg1 arg2 harg2 arg3 harg3 x2 _ hmlz _ _ _ _ _ _ _ _ _ _ _
      slices_S16x1_o11_0_S1x1 inb_S16x1_S1x1_11_0 (k0_off46_eq i) (k0_off47_eq i) rfl rfl rfl x, ?_⟩
    refine List.forall_mem_cons.2 ⟨fun x => piece_row hok i 10 arg1 harg1 arg2 harg2 arg3 harg3 x2 _ hmlz _ _ _ _ _ _ _ _ _ _ _
      slices_S16x1_o10_0_S1x1 inb_S16x1_S1x1_10_0 (k0_off42_eq i) (k0_off43_eq i) rfl rfl rfl x, ?_⟩
    refine List.forall_mem_cons.2 ⟨fun x => piece_row hok i 9 arg1 harg1 arg2 harg2 arg3 harg3 x2 _ hmlz _ _ _ _ _ _ _ _ _ _ _
      slices_S16x1_o9_0_S1x1 inb_S16x1_S1x1_9_0 (k0_off38_eq i) (k0_off39_eq i) rfl rfl rfl x, ?_⟩
    refine List.forall_mem_cons.2 ⟨fun x => piece_row hok i 8 arg1 harg1 arg2 harg2 arg3 harg3 x2 _ hmlz _ _ _ _ _ _ _ _ _ _ _
      slices_S16x1_o8_0_S1x1 inb_S16x1_S1x1_8_0 (k0_off34_eq i) (k0_off35_eq i) rfl rfl rfl x, ?_⟩
    refine List.forall_mem_cons.2 ⟨fun x => piece_row hok i 7 arg1 harg1 arg2 harg2 arg3 harg3 x2 _ hmlz _ _ _ _ _ _ _ _ _ _ _
      slices_S16x1_o7_0_S1x1 inb_S16x1_S1x1_7_0 (k0_off30_eq i) (k0_off31_eq i) rfl rfl rfl x, ?_⟩
    refine List.forall_mem_cons.2 ⟨fun x => piece_row hok i 6 arg1 harg1 arg2 harg2 arg3 harg3 x2 _ hmlz _ _ _ _ _ _ _ _ _ _ _
      slices_S16x1_o6_0_S1x1 inb_S16x1_S1x1_6_0 (k0_off26_eq i) (k0_off27_eq i) rfl rfl rfl x, ?_⟩
    refine List.forall_mem_cons.2 ⟨fun x => piece_row hok i 5 arg1 harg1 arg2 harg2 arg3 harg3 x2 _ hmlz _ _ _ _ _ _ _ _ _ _ _
      slices_S16x1_o5_0_S1x1 inb_S16x1_S1x1_5_0 (k0_off22_eq i) (k0_off23_eq i) rfl rfl rfl x, ?_⟩
    refine List.forall_mem_cons.2 ⟨fun x => piece_row hok i 4 arg1 harg1 arg2 harg2 arg3 harg3 x2 _ hmlz _ _ _ _ _ _ _ _ _ _ _
      slices_S16x1_o4_0_S1x1 inb_S16x1_S1x1_4_0 (k0_off18_eq i) (k0_off19_eq i) rfl rfl rfl x, ?_⟩
    refine List.forall_mem_cons.2 ⟨fun x => piece_row hok i 3 arg1 harg1 arg2 harg2 arg3 harg3 x2 _ hmlz _ _ _ _ _ _ _ _ _ _ _
      slices_S16x1_o3_0_S1x1 inb_S16x1_S1x1_3_0 (k0_off14_eq i) (k0_off15_eq i) rfl rfl rfl x, ?_⟩
    refine List.forall_mem_cons.2 ⟨fun x => piece_row hok i 2 arg1 harg1 arg2 harg2 arg3 harg3 x2 _ hmlz _ _ _ _ _ _ _ _ _ _ _
      slices_S16x1_o2_0_S1x1 inb_S16x1_S1x1_2_0 (k0_off10_eq i) (k0_off11_eq i) rfl rfl rfl x, ?_⟩
    refine List.forall_mem_cons.2 ⟨fun x => piece_row hok i 1 arg1 harg1 arg2 harg2 arg3 harg3 x2 _ hmlz _ _ _ _ _ _ _ _ _ _ _
      slices_S16x1_o1_0_S1x1 inb_S16x1_S1x1_1_0 (k0_off6_eq i) (k0_off7_eq i) rfl rfl rfl x, ?_⟩
    refine List.forall_mem_cons.2 ⟨fun x => piece_row hok i 0 arg1 harg1 arg2 harg2 arg3 harg3 x2 _ hmlz _ _ _ _ _ _ _ _ _ _ _
      slices_S16x1_o0_0_S1x1 inb_S16x1_S1x1_0_0 (k0_off2_eq i) (k0_off3_eq i) rfl rfl rfl x, ?_⟩
    exact fun p hp => absurd hp List.not_mem_nil
  iexists _; isplitr
  swap; · iexact H5
  ipureintro
  rw [hloop]
  funext y
  refine View.read_writes_apply_of_pieces (Val := Elt F) (e := .f32) _ _ (ent x2) _ ?_ y (View.cover_of_tiledL _ S16x1.size (by sl_kernel_rfl) y)
  intro p hp x
  rw [List.mem_singleton] at hp
  subst hp
  exact congrArg (ent x2) (Rect.emb_unit_full (s := S16x1) (off := ![0, 0]) inb_S16x1_S16x1_0_0 x).symm

end Cert.KernelIdeal.Body
-- ==== Proof.Run.lean ====
/- The launch: the pipeline's proof data built on the body's triple, the run of the whole program — the grid's points and
   the two host reshapes behind them — and what every final state holds. -/
module

public import proofs.«01_k».proof.Proof.Body
public import proofs.«01_k».proof.Proof.Gen.KernelIdeal.Frame
public import Idealize.ShloMosaic.Lib.Claim
public import Idealize.ShloMosaic.Lib.Pipeline.ValueKit.Point

@[expose] public section

set_option maxRecDepth 16384

noncomputable section

namespace Cert.KernelIdeal.Run

open Cert.KernelIdeal Cert.KernelIdeal.Gen Cert.Words Cert.KernelIdeal.Block Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables a memory holds are in range on every device: what the body asks of them. -/
def Tables : Prop :=
  ∀ c : Dev nD, Ok (m ((c.tc : Thread nD τ).loc main_arg1)) (m ((c.tc : Thread nD τ).loc main_arg2))

/-- The windows' block indices: both tables' windows stay at their one block, the others move down one block of sixteen
    rows a point. -/
theorem index_acts : ∀ t : Fin grid0.N, win0_0.index t = ![0, 0] := by decide +kernel
theorem index_cum : ∀ t : Fin grid0.N, win0_1.index t = ![0] := by decide +kernel
theorem index_logits : ∀ t : Fin grid0.N, win0_2.index t = ![t.val, 0] := by decide +kernel
theorem index_lp : ∀ t : Fin grid0.N, win0_3.index t = ![t.val, 0] := by decide +kernel
theorem index_sel : ∀ t : Fin grid0.N, win0_4.index t = ![t.val, 0] := by decide +kernel
theorem index_ent : ∀ t : Fin grid0.N, win0_5.index t = ![t.val, 0] := by decide +kernel

/-- The actions' window is the whole table at every point. -/
theorem iblk_acts (c : Dev nD) (t : Fin cfg0.N) : iblk m c 0 t = m ((c.tc : Thread nD τ).loc main_arg1) := by
  funext y
  blk_ext [iblk, V, index_acts t]

/-- So is the offsets' window. -/
theorem iblk_cum (c : Dev nD) (t : Fin cfg0.N) : iblk m c 1 t = m ((c.tc : Thread nD τ).loc main_arg2) := by
  funext y
  blk_ext [iblk, V, index_cum t]

/-- The body's tables are in range at every point. -/
theorem Tables.at_point {m : (ℓ : Loc nD τ sig) → Buf (Elt F) ℓ} (h : Tables m) (c : Dev nD) (t : Fin cfg0.N) :
    Ok (iblk m c 0 t) (iblk m c 1 t) := by
  rw [iblk_acts, iblk_cum]; exact h c

/-- The pipeline's proof data: every input buffer keeps its block, and the three output buffers end a point with the log
    probabilities, the chosen entries and the entropies of the block the point fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lp (iblk m c 2 t)
    | ⟨4, _⟩ => sel (grid0.coords t) (iblk m c 0 t) (iblk m c 1 t) (iblk m c 2 t)
    | ⟨5, _⟩ => ent (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_acts (c : Dev nD) (t : Fin cfg0.N) : (dats m 0 c).after 0 t = iblk m c 0 t := by dsimp only [dats]
theorem after_cum (c : Dev nD) (t : Fin cfg0.N) : (dats m 0 c).after 1 t = iblk m c 1 t := by dsimp only [dats]
theorem after_logits (c : Dev nD) (t : Fin cfg0.N) : (dats m 0 c).after 2 t = iblk m c 2 t := by dsimp only [dats]
theorem after_lp (c : Dev nD) (t : Fin cfg0.N) : (dats m 0 c).after 3 t = lp (iblk m c 2 t) := by dsimp only [dats]
theorem after_sel (c : Dev nD) (t : Fin cfg0.N) :
    (dats m 0 c).after 4 t = sel (grid0.coords t) (iblk m c 0 t) (iblk m c 1 t) (iblk m c 2 t) := by dsimp only [dats]
theorem after_ent (c : Dev nD) (t : Fin cfg0.N) : (dats m 0 c).after 5 t = ent (iblk m c 2 t) := by dsimp only [dats]

/-- At every point the actions' buffer holds its block before the body runs, whether or not the point fetched it; -/
theorem before_acts (c : Dev nD) (t : Fin cfg0.N) (d) : (dats m 0 c).before 0 t d = iblk m c 0 t :=
  before0_0_of m (dats m 0 c) (A_eq m c 0) (after_acts m c) t d
/-- so does the offsets' -/
theorem before_cum (c : Dev nD) (t : Fin cfg0.N) (d) : (dats m 0 c).before 1 t d = iblk m c 1 t :=
  before0_1_of m (dats m 0 c) (A_eq m c 1) (after_cum m c) t d
/-- and the logits'. -/
theorem before_logits (c : Dev nD) (t : Fin cfg0.N) (d) : (dats m 0 c).before 2 t d = iblk m c 2 t :=
  before0_2_of m (dats m 0 c) (A_eq m c 2) (after_logits m c) t d

/-- The six staging buffers in use at a point, in window order. -/
abbrev buf0 (t : Fin cfg0.N) : Memref sig .tc .smem S1024x2 .i32 := win0_0.stage (cfg0.slots t 0)
abbrev buf1 (t : Fin cfg0.N) : Memref sig .tc .smem S11 .i32 := win0_1.stage (cfg0.slots t 1)
abbrev buf2 (t : Fin cfg0.N) : Memref sig .tc .vmem S16x100000 .f32 := win0_2.stage (cfg0.slots t 2)
abbrev buf3 (t : Fin cfg0.N) : Memref sig .tc .vmem S16x100000 .f32 := win0_3.stage (cfg0.slots t 3)
abbrev buf4 (t : Fin cfg0.N) : Memref sig .tc .vmem S16x1 .f32 := win0_4.stage (cfg0.slots t 4)
abbrev buf5 (t : Fin cfg0.N) : Memref sig .tc .vmem S16x1 .f32 := win0_5.stage (cfg0.slots t 5)

/-- What a point's body starts from: the invariant, nothing owed, and the six staging buffers. -/
def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

/-- What it ends with. -/
def post (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t))

/-- The body at a point runs from `pre` to `post`: the invariant and what is owed pass by unread, the rest is the body's
    triple at the point's blocks. -/
theorem point_triple (hT : Tables m) (c : Dev nD) (t : Fin cfg0.N) :
    pre m c t ⊢ wp frame (wpE (defs₀ (F := F)) Variants.none c none) Set.univ (bodyAt0 t) (fun _ => post m c t) := by
  unfold pre post bodyAt0
  simp only [before_acts, before_cum, before_logits]
  rw [show (dats m 0 c).Φ t.succ = (dats m 0 c).Φ t.castSucc from rfl,
    show (dats m 0 c).owesAt () t.succ = (dats m 0 c).owesAt () t.castSucc from rfl,
    after_acts, after_cum, after_logits, after_lp, after_sel, after_ent]
  iintro ⟨HΦ, Ho, ⟨%d0, H0⟩, ⟨%d1, H1⟩, ⟨%d2, H2⟩, ⟨%d3, H3⟩, ⟨%d4, H4⟩, ⟨%d5, H5⟩⟩
  iapply (body_triple c (grid0.coords t) _ _ _ _ _ _ _ _ _ _ _ _ (iblk m c 0 t) (iblk m c 1 t) (iblk m c 2 t)
    (hT.at_point c t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row for a point's staging slots is the body at that point. -/
theorem row_eq (t : Fin cfg0.N) : defs₀ (F := F) .tc cfg0.body (cfg0.bodyArgs t (cfg0.slots t)) = bodyAt0 t := by
  unfold defs₀; rw [Defs.onTc_tc]

/-- Every point meets the pipeline's obligation. -/
theorem obligation (hT : Tables m) (c : Dev nD) :
    BodyObligation (dats (F := F) m 0 c) (defs₀ (F := F)) Variants.none () Set.univ := fun t => by
  rw [bigSep_W0, bigSep_W0, row_eq]
  exact triple_restated (point_triple m hT c t) rfl .rfl fun _ => .rfl

-- the launch theorem's implicit arguments are read off this statement, through plain definitions
set_option backward.isDefEq.respectTransparency.types false in
/-- The whole program terminates from counters at zero, with the pipeline's arrays at what its points wrote, carried
    through the two reshapes, every other buffer as it was found, and every counter back at zero. -/
theorem run (hT : Tables m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m hT c).loose) (hshare := fun c => (dats m 0 c).share_full fun _ => rfl)
    (howed := fun _ _ => rfl) (V₀ := V0 m) (opss := [hostOps1]) sfx_sub sfx_fresh sfx_keeps
    (hmain := hmain m Variants.none) (hA := A_eq m) (hΦ := fun _ _ => rfl) (hQ' := fun _ h => h)

/-- The frame: the three arguments end as they started, and every counter is back at zero. -/
theorem quiescent (hT : Tables m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ hT)))
    ((θ_run defs _ _).mono (fun _ h => h.2) (run m ρ hT))

end Cert.KernelIdeal.Run

end
-- ==== Proof.SameProgram.lean ====
/- The kernel and its idealization are one and the same program, no operation of it having been replaced: each definition
   of the one is the other's. What is proved of the idealization at any float values therefore holds of the kernel at its
   own. -/
module

public import proofs.«01_k».proof.Proof.Run
public import proofs.«01_k».proof.Proof.Gen.Kernel.Frame

@[expose] public section

set_option maxRecDepth 100000

noncomputable section

namespace Cert.SameProgram

open Idealize.ShloMosaic Idealize.ShloMosaic.TcCoe
open Idealize.SL Idealize.SL.Sem

attribute [local instance] Cert.Kernel.Gen.facts Cert.KernelIdeal.Gen.facts

variable {F : FTy → Type} [FloatOps F]

/-- The body tables agree: row by row the same body. -/
theorem bodies : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => rfl

/-- So do the programs' procedure tables. -/
theorem procs : @Cert.Kernel.defs F _ _ = @Cert.KernelIdeal.defs F _ _ := by
  unfold Cert.Kernel.defs Cert.KernelIdeal.defs
  exact congrArg (Pipeline.defs _) bodies

/-- The kernel's frame, carried over: from tables in range it terminates with its three arguments as they were and every
    counter at zero. -/
theorem quiescent (m : (ℓ : Loc Cert.Kernel.nD Cert.Kernel.τ Cert.Kernel.sig) → Buf (Elt F) ℓ)
    (ρ : Dev Cert.Kernel.nD → PrngReg)
    (hT : ∀ c : Dev Cert.Kernel.nD, Cert.Words.Ok (m ((c.tc : Thread Cert.Kernel.nD Cert.Kernel.τ).loc Cert.Kernel.main_arg1))
      (m ((c.tc : Thread Cert.Kernel.nD Cert.Kernel.τ).loc Cert.Kernel.main_arg2))) :
    θ_run Cert.Kernel.defs (onTc (τ := Cert.Kernel.τ) (Cert.Kernel.main (F := F))) ⟨m, fun _ => 0, ρ⟩ (fun r =>
      (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [procs]
  exact Cert.KernelIdeal.Run.quiescent m ρ hT

end Cert.SameProgram

end
-- ==== Proof.Softmax.lean ====
/- The mathematics of one row, over the extended reals: its maximum, its log-sum-exp taken after subtracting the maximum,
   the two ways of writing a log probability, and the two ways of writing the entropy. A row may hold minus infinities —
   they carry probability zero — as long as its maximum is a real number. -/
module

public import Idealize.ShloMosaic.PureOps.Ideal.Laws

@[expose] public section

noncomputable section

namespace Cert.Softmax

open Idealize.ShloMosaic

variable {ι : Type} [Fintype ι]

/-- The greatest entry of a row, minus infinity for the empty row. -/
def top (v : ι → EReal) : EReal := Finset.univ.fold max ⊥ v

/-- The sum of the exponentials of a row's entries less `M`. -/
def mass (v : ι → EReal) (M : EReal) : EReal := ∑ j, Ideal.exp (v j - M)

/-- The sum of the same exponentials, each times its exponent. -/
def moment (v : ι → EReal) (M : EReal) : EReal := ∑ j, Ideal.exp (v j - M) * (v j - M)

theorem le_top (v : ι → EReal) (j : ι) : v j ≤ top v :=
  (Finset.le_fold_max (v j)).2 (Or.inr ⟨j, Finset.mem_univ j, le_rfl⟩)

/-- A row whose maximum is not minus infinity has an entry that is not. -/
theorem exists_ne_bot (v : ι → EReal) (h : top v ≠ ⊥) : ∃ j, v j ≠ ⊥ := by
  by_contra hc
  push Not at hc
  apply h
  rw [eq_bot_iff]
  exact (Finset.fold_max_le (⊥ : EReal)).2 ⟨le_rfl, fun j _ => (hc j).le⟩

/-- The real exponential of an entry less `M`, zero for minus infinity. -/
def e (v : ι → EReal) (M : ℝ) (j : ι) : ℝ := if v j = ⊥ then 0 else Real.exp ((v j).toReal - M)

/-- The same times its exponent. -/
def p (v : ι → EReal) (M : ℝ) (j : ι) : ℝ := e v M j * ((v j).toReal - M)

theorem exp_entry (v : ι → EReal) (M : ℝ) (j : ι) (hv : v j ≠ ⊤) : Ideal.exp (v j - M) = (e v M j : EReal) := by
  unfold e
  by_cases hb : v j = ⊥
  · rw [hb, EReal.bot_sub]; simp
  · obtain ⟨r, hr⟩ : ∃ r : ℝ, (r : EReal) = v j := ⟨_, EReal.coe_toReal hv hb⟩
    rw [if_neg hb, ← hr, ← EReal.coe_sub, EReal.toReal_coe]; rfl

/-- An exponential times its exponent, the exponent lowered by a further real `L`. -/
theorem mul_entry (v : ι → EReal) (M L : ℝ) (j : ι) (hv : v j ≠ ⊤) :
    Ideal.exp ((v j - M) - L) * ((v j - M) - L) = ((Real.exp (-L) * (p v M j - e v M j * L) : ℝ) : EReal) := by
  unfold p e
  by_cases hb : v j = ⊥
  · rw [hb, EReal.bot_sub, EReal.bot_sub]; simp
  · obtain ⟨r, hr⟩ : ∃ r : ℝ, (r : EReal) = v j := ⟨_, EReal.coe_toReal hv hb⟩
    rw [if_neg hb, ← hr, ← EReal.coe_sub, ← EReal.coe_sub, EReal.toReal_coe, Ideal.exp_coe, ← EReal.coe_mul]
    congr 1
    rw [show r - M - L = -L + (r - M) by ring, Real.exp_add]
    ring

theorem coe_sum (f : ι → ℝ) : ((∑ j, f j : ℝ) : EReal) = ∑ j, (f j : EReal) :=
  map_sum (⟨⟨fun x : ℝ => (x : EReal), EReal.coe_zero⟩, EReal.coe_add⟩ : ℝ →+ EReal) f Finset.univ

section Finite

variable (v : ι → EReal) (M : ℝ) (hv : ∀ j, v j ≠ ⊤)

include hv

theorem mass_eq : mass v M = ((∑ j, e v M j : ℝ) : EReal) := by
  rw [coe_sum]; exact Finset.sum_congr rfl fun j _ => exp_entry v M j (hv j)

theorem moment_eq : moment v M = ((∑ j, p v M j : ℝ) : EReal) := by
  rw [coe_sum]
  refine Finset.sum_congr rfl fun j _ => ?_
  have h := mul_entry v M 0 j (hv j)
  simpa using h

omit hv in
theorem sum_pos (hne : ∃ j, v j ≠ ⊥) : 0 < ∑ j, e v M j := by
  obtain ⟨j, hj⟩ := hne
  refine Finset.sum_pos' (fun i _ => ?_) ⟨j, Finset.mem_univ j, ?_⟩
  · unfold e; split
    · exact le_rfl
    · exact (Real.exp_pos _).le
  · unfold e; rw [if_neg hj]; exact Real.exp_pos _

/-- The logarithm of the mass is the real one. -/
theorem log_mass (hne : ∃ j, v j ≠ ⊥) : Ideal.log (mass v M) = ((Real.log (∑ j, e v M j) : ℝ) : EReal) := by
  rw [mass_eq v M hv, Ideal.log_coe, if_neg (not_le.2 (sum_pos v M hne))]

/-- THE ENTROPY: the log of the mass less the moment over the mass is minus the sum of the probabilities times their
    logarithms. -/
theorem entropy_eq (hne : ∃ j, v j ≠ ⊥) :
    Ideal.log (mass v M) - Ideal.div (moment v M) (mass v M)
      = -∑ j, Ideal.exp ((v j - M) - Ideal.log (mass v M)) * ((v j - M) - Ideal.log (mass v M)) := by
  have hz := sum_pos v M hne
  rw [log_mass v M hv hne]
  rw [Finset.sum_congr rfl fun j _ => mul_entry v M (Real.log (∑ j, e v M j)) j (hv j), ← coe_sum, moment_eq v M hv, mass_eq v M hv,
    Ideal.div_coe hz.ne', ← EReal.coe_mul, ← EReal.coe_sub, ← EReal.coe_neg]
  congr 1
  rw [← Finset.mul_sum, Finset.sum_sub_distrib, ← Finset.sum_mul, Real.exp_neg, Real.exp_log hz]
  field_simp
  ring

/-- THE LOG PROBABILITY: subtracting the maximum and the log of the mass at once or one after the other. -/
theorem logprob_eq (hne : ∃ j, v j ≠ ⊥) (x : EReal) :
    x - ((M : EReal) + Ideal.log (mass v M)) = (x - M) - Ideal.log (mass v M) := by
  rw [log_mass v M hv hne, ← EReal.coe_add]
  induction x with
  | bot => simp
  | top => rfl
  | coe r => rw [← EReal.coe_sub, ← EReal.coe_sub, ← EReal.coe_sub]; congr 1; ring

end Finite

end Cert.Softmax

end
-- ==== Proof.Rows.lean ====
/- Reductions along the rows of a matrix, read at the extended reals: a row's sum and a row's maximum, as the kernel takes
   them and as the reference does. -/
module

public import proofs.«01_k».proof.Proof.Softmax
public import Idealize.ShloMosaic.Lib.ValueIdxCore
public import Idealize.ShloMosaic.Lib.KernelVsHost
public import Idealize.ShloMosaic.PureOps.Ideal.Laws

@[expose] public section

noncomputable section

namespace Cert.Rows

open Cert.Softmax Idealize.ShloMosaic Idealize.ShloMosaic.ValueIdx

variable {n k : ℕ}

/-- The word of minus infinity, read as an extended real; -/
theorem ofBits_neg_inf : (FloatOps.ofBits .f32 0xFF800000#32 : Ideal .f32) = ⊥ := by
  show Ideal.ofBits .f32 0xFF800000#32 = ⊥
  simp [Ideal.ofBits, Ideal.ieee]

/-- of infinity. -/
theorem ofBits_inf : (FloatOps.ofBits .f32 0x7F800000#32 : Ideal .f32) = ⊤ := by
  show Ideal.ofBits .f32 0x7F800000#32 = ⊤
  simp [Ideal.ofBits, Ideal.ieee]

/-- Row `r`'s index with the column put back in. -/
theorem lift_row (h : (⟨2, ![n, k]⟩ : Shape).Reduces [1] ⟨1, ![n]⟩) (r : Fin n) (j : Fin k) : h.lift (ix1 r) j = ix2 r j := by
  funext c
  match c with
  | ⟨0, _⟩ => exact Fin.ext rfl
  | ⟨1, _⟩ => exact Fin.ext rfl

/-- A row's sum, as the kernel takes it. -/
theorem sum_row (x : FVec Ideal ⟨2, ![n, k]⟩ .f32) (acc : BitVec 32) (h : (⟨2, ![n, k]⟩ : Shape).Reduces [1] ⟨1, ![n]⟩)
    (hφ : FKind.Formats .f32) (hacc : acc = FKind.add.neutral .f32 hφ) (r : Fin n) :
    multiReduction .add [1] ⟨1, ![n]⟩ x acc h hφ hacc (ix1 r) = ∑ j : Fin k, x (ix2 r j) := by
  rw [Ideal.multiReduction_add_single]
  exact Finset.sum_congr rfl fun j _ => congrArg x (lift_row h r j)

/-- A row's maximum, as the kernel takes it. -/
theorem max_row (x : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ) (r : Fin n) :
    multiReduction .maximumf [1] ⟨1, ![n]⟩ x 0xFF800000#32 h hφ hacc (ix1 r) = top fun j : Fin k => x (ix2 r j) := by
  rw [Ideal.multiReduction_maximumf_single, ofBits_neg_inf]
  exact Finset.fold_congr fun j _ => congrArg x (lift_row h r j)

/-- A row's maximum, as the reference takes it. -/
theorem host_max_row (x : FVec Ideal ⟨2, ![n, k]⟩ .f32) {u : Shape} (h : (⟨2, ![n, k]⟩ : Shape).ReducesTo [1] ⟨1, ![n]⟩)
    (h' : (⟨2, ![n, k]⟩ : Shape).Reduces [1] ⟨1, ![n]⟩) (hu : 0 < u.numel) (r : Fin n) :
    Host.reduce FloatOps.maximumf x (constant (F := Ideal) u .f32 0xFF800000#32) h hu (ix1 r)
      = top fun j : Fin k => x (ix2 r j) := by
  rw [hostReduce_maximumf_eq_multiReduction x _ h hu h' (by decide) (by decide)]
  exact max_row x h' _ _ r

/-- A row's sum, as the reference takes it. -/
theorem host_sum_row (x : FVec Ideal ⟨2, ![n, k]⟩ .f32) {u : Shape} (h : (⟨2, ![n, k]⟩ : Shape).ReducesTo [1] ⟨1, ![n]⟩)
    (h' : (⟨2, ![n, k]⟩ : Shape).Reduces [1] ⟨1, ![n]⟩) (hu : 0 < u.numel) (r : Fin n) :
    Host.reduceAdd x (constant (F := Ideal) u .f32 0x00000000#32) h hu (ix1 r) = ∑ j : Fin k, x (ix2 r j) := by
  show Ideal.hostReduceAdd h x (Ideal.ofBits .f32 0x00000000#32) (ix1 r) = _
  rw [Ideal.hostReduceAdd_single h h', Ideal.ofBits_zero_f32, zero_add]
  exact Finset.sum_congr rfl fun j _ => congrArg x (lift_row h' r j)

end Cert.Rows

end
-- ==== Proof.Precondition.lean ====
/- The preconditions read entry by entry: what they say of the two tables, and of the logits' row maxima. -/
module

public import proofs.«01_k».proof.Proof.Words
public import proofs.«01_k».proof.Proof.Rows
public import proofs.«01_k».proof.Proof.Gen.Pre_actions_in_range
public import proofs.«01_k».proof.Proof.Gen.Pre_actions_in_range_and_rows_finite
public import Idealize.ShloMosaic.Lib.StableHlo.Predicate
public import Idealize.ShloMosaic.Lib.WordCmp
public import Idealize.ShloMosaic.Lib.KernelVsHost
public import Idealize.ShloMosaic.PureOps.Ideal.Laws
public import Idealize.ShloMosaic.Lib.Pipeline.Value

@[expose] public section

noncomputable section

namespace Cert.Precondition

open Cert.Words Cert.Softmax Cert.Rows Idealize.ShloMosaic Idealize.ShloMosaic.ValueIdx
open Idealize.ShloMosaic.WordCmp (andi_ofBool ori_ofBool ofBool_eq_one_iff)
open Idealize.ShloMosaic.StableHlo.Predicate (ij ixP i1q bcast_col1 bcast_of_col bcast_of_row bcast_row1 bcast_scalar)

variable {F : FTy → Type} [FloatOps F]

/-- Column `c` of the actions, cut out and read at a row. -/
theorem column (x0 : IVec SAct 32) (c : Fin 2) (off : Fin 2 → ℕ) (hoff : off = ![0, c.val])
    (h : SAct.Slices off ⟨2, ![1024, 1]⟩) (r : Fin 1024) :
    extractStridedSlice (⟨2, ![1024, 1]⟩ : Shape) off x0 h (ixP r) = x0 (ix2 r c) := by
  subst hoff
  refine Idealize.ShloMosaic.extractStridedSlice_apply _ _ _ _ _ fun a => ?_
  match a with
  | ⟨0, _⟩ => exact (Nat.zero_add _).symm
  | ⟨1, _⟩ => exact (Nat.add_zero _).symm

/-- One entry of the integer condition, at row `r` and table entry `k`, as the precondition's bit spells it. -/
def Entry (a p t k : BitVec 32) : Prop :=
  ((0#32).sle a ∧ a.slt 11#32) ∧ ((!(a == k)) ∨ (0#32).sle (t + k + p) ∧ (t + k + p).slt 99968#32)

/-- What an entry says in natural numbers: the type is below 11, and where it is `k` the flat index is below 99968. -/
theorem Entry.bounds {a p t : BitVec 32} {k : Fin 11} (h : Entry a p t (BitVec.ofNat 32 k.val)) :
    a.toNat < 11 ∧ (k.val = a.toNat → (flat a p t).toNat < 99968) := by
  obtain ⟨⟨h0, h1⟩, h2⟩ := h
  simp only [BitVec.sle, BitVec.slt, decide_eq_true_eq, Bool.not_eq_true', beq_eq_false_iff_ne] at h0 h1 h2
  have e0 : (0#32 : BitVec 32).toInt = 0 := by decide
  have e1 : (11#32 : BitVec 32).toInt = 11 := by decide
  have e2 : (99968#32 : BitVec 32).toInt = 99968 := by decide
  rw [e0] at h0 h2
  rw [e1] at h1
  rw [e2] at h2
  have hlt : a.toNat < 11 := by
    rw [BitVec.toInt_eq_toNat_cond] at h0 h1
    have := a.isLt
    split at h0 <;> split at h1 <;> omega
  refine ⟨hlt, fun hk => ?_⟩
  have ha : a = BitVec.ofNat 32 k.val := by
    apply BitVec.eq_of_toNat_eq
    rw [BitVec.toNat_ofNat, hk, Nat.mod_eq_of_lt a.isLt]
  rcases h2 with h2 | ⟨h2, h3⟩
  · exact absurd ha h2
  · rw [← ha] at h2 h3
    show (t + a + p).toNat < 99968
    rw [BitVec.toInt_eq_toNat_cond] at h2 h3
    have := (t + a + p).isLt
    split at h2 <;> split at h3 <;> omega

/-- The integer precondition's entries. -/
theorem entries {x : FVec F ⟨2, ![1024, 100000]⟩ .f32} {x0 : IVec SAct 32} {x1 : IVec SCum 32}
    (h : Cert.Pre_actions_in_range.fn (F := F) x x0 x1 = fun _ => 1#1) (r : Fin 1024) (k : Fin 11) :
    Entry (x0 (ix2 r 0)) (x0 (ix2 r 1)) (x1 (ix1 k)) (BitVec.ofNat 32 k.val) := by
  have e := congrFun h (ij r k)
  simp only [Cert.Pre_actions_in_range.fn, Cert.Pre_actions_in_range.fn_part1, andi, ori, cmpi, addi] at e
  rw [bcast_of_col, bcast_of_col, bcast_of_col, bcast_of_row, bcast_of_row, bcast_row1, bcast_row1] at e
  simp only [andi, cmpi, addi] at e
  erw [column x0 0 _ rfl, column x0 1 _ rfl] at e
  simp only [broadcastInDim, constantI, IntOp.cmpi, IntOp.addi, andi_ofBool, ori_ofBool, ofBool_eq_one_iff,
    Bool.and_eq_true, Bool.or_eq_true] at e
  rw [show iotaInDim Cert.Pre_actions_in_range.S11 32 0 (Shape.Idx.ofFin k) = BitVec.ofNat 32 k.val from rfl,
    show (Shape.Idx.ofFin k : SCum.Idx) = ix1 k from funext fun a => by match a with | ⟨0, _⟩ => rfl] at e
  exact e

/-- The integer precondition puts the tables in range. -/
theorem ok_of_range {x : FVec F ⟨2, ![1024, 100000]⟩ .f32} {x0 : IVec SAct 32} {x1 : IVec SCum 32}
    (h : Cert.Pre_actions_in_range.fn (F := F) x x0 x1 = fun _ => 1#1) : Ok x0 x1 := fun r =>
  ⟨(entries h r 0).bounds.1, fun k hk => (entries h r k).bounds.2 hk⟩

/-- The maximum of each row, as the second precondition takes it; -/
def rowTop (x : FVec F ⟨2, ![1024, 100000]⟩ .f32) : FVec F ⟨2, ![1024, 1]⟩ .f32 :=
  broadcastInDim _ ![0] Cert.Pre_actions_in_range_and_rows_finite.Gen.bcast_S1024_S1024x1_0
    (Host.reduce FloatOps.maximumf x (constant Cert.Pre_actions_in_range_and_rows_finite.S_ .f32 0xFF800000#32)
      Cert.Pre_actions_in_range_and_rows_finite.Gen.reducesTo_S1024x100000_S1024_d1 Cert.Pre_actions_in_range_and_rows_finite.Gen.h_S_)

/-- the bit that it asks of the row: the maximum lies strictly between the infinities. -/
def rowBit (x : FVec F ⟨2, ![1024, 100000]⟩ .f32) : IVec ⟨2, ![1024, 1]⟩ 1 :=
  andi
    (cmpf .ogt (rowTop x) (broadcastInDim _ ![] Cert.Pre_actions_in_range_and_rows_finite.Gen.bcast_S_S1024x1
      (constant Cert.Pre_actions_in_range_and_rows_finite.S_ .f32 0xFF800000#32)))
    (cmpf .olt (rowTop x) (broadcastInDim _ ![] Cert.Pre_actions_in_range_and_rows_finite.Gen.bcast_S_S1024x1
      (constant Cert.Pre_actions_in_range_and_rows_finite.S_ .f32 0x7F800000#32)))

/-- The second precondition is the first, joined entry by entry with the row's bit. -/
theorem joined (x : FVec F ⟨2, ![1024, 100000]⟩ .f32) (x0 : IVec SAct 32) (x1 : IVec SCum 32) :
    Cert.Pre_actions_in_range_and_rows_finite.fn (F := F) x x0 x1
      = andi (Cert.Pre_actions_in_range.fn (F := F) x x0 x1)
          (broadcastInDim _ ![0, 1] Cert.Pre_actions_in_range_and_rows_finite.Gen.bcast_S1024x1_S1024x11_0_1 (rowBit x)) := rfl

/-- A conjunction of two bits is set where both are. -/
theorem andi_one {a b : BitVec 1} (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

section Joined

variable {x : FVec F ⟨2, ![1024, 100000]⟩ .f32} {x0 : IVec SAct 32} {x1 : IVec SCum 32}

/-- So the second precondition gives the first, -/
theorem range_of_joined (h : Cert.Pre_actions_in_range_and_rows_finite.fn (F := F) x x0 x1 = fun _ => 1#1) :
    Cert.Pre_actions_in_range.fn (F := F) x x0 x1 = fun _ => 1#1 :=
  funext fun y => (andi_one (congrFun ((joined x x0 x1).symm.trans h) y)).1

/-- and each row's bit. -/
theorem rowBit_of_joined (h : Cert.Pre_actions_in_range_and_rows_finite.fn (F := F) x x0 x1 = fun _ => 1#1) (r : Fin 1024) :
    rowBit x (ixP r) = 1#1 := by
  have e := (andi_one (congrFun ((joined x x0 x1).symm.trans h) (ij r 0))).2
  rwa [bcast_of_col] at e

end Joined

/-- One axis of the logits taken away. -/
theorem reduces_logits : (⟨2, ![1024, 100000]⟩ : Shape).Reduces [1] ⟨1, ![1024]⟩ := by decide

/-- The maximum that a row's bit compares. -/
theorem rowTop_apply (x : FVec Ideal ⟨2, ![1024, 100000]⟩ .f32) (r : Fin 1024) :
    rowTop x (ixP r) = top fun j : Fin 100000 => x (ix2 r j) := by
  unfold rowTop
  rw [bcast_col1, show (Shape.Idx.ofFin r : (⟨1, ![1024]⟩ : Shape).Idx) = ix1 r from funext fun a => by match a with | ⟨0, _⟩ => rfl]
  exact host_max_row x _ reduces_logits _ r

/-- Strictly between the infinities, as the comparisons' bits say it. -/
theorem between {t : EReal} (h : IntOp.andi (Ideal.cmp .ogt t ⊥) (Ideal.cmp .olt t ⊤) = 1#1) : t ≠ ⊥ ∧ t ≠ ⊤ := by
  obtain ⟨h0, h1⟩ := andi_one h
  unfold Ideal.cmp at h0 h1
  rw [ofBool_eq_one_iff] at h0 h1
  exact ⟨(of_decide_eq_true h0).ne', (of_decide_eq_true h1).ne⟩

/-- A row's bit, read. -/
theorem rowBit_apply (x : FVec F ⟨2, ![1024, 100000]⟩ .f32) (y : (⟨2, ![1024, 1]⟩ : Shape).Idx) :
    rowBit x y = IntOp.andi (FloatOps.cmpf .ogt (rowTop x y) (FloatOps.ofBits .f32 0xFF800000#32))
      (FloatOps.cmpf .olt (rowTop x y) (FloatOps.ofBits .f32 0x7F800000#32)) := rfl

/-- At the extended reals a row's bit says that its maximum is finite. -/
theorem top_finite {x : FVec Ideal ⟨2, ![1024, 100000]⟩ .f32} {r : Fin 1024} (h : rowBit x (ixP r) = 1#1) :
    top (fun j : Fin 100000 => x (ix2 r j)) ≠ ⊥ ∧ top (fun j : Fin 100000 => x (ix2 r j)) ≠ ⊤ := by
  rw [rowBit_apply, rowTop_apply, ofBits_neg_inf, ofBits_inf, Ideal.cmpf_def, Ideal.cmpf_def] at h
  exact between h

end Cert.Precondition

end
-- ==== Proof.Arrays.lean ====
/- What the kernel's arrays hold when it has run: row 16 t + r of each result is row r of what block t computes, and the
   two columns of results are handed over as vectors. -/
module

public import proofs.«01_k».proof.Proof.Run
public import Idealize.ShloMosaic.Lib.StableHlo.Run

@[expose] public section

set_option maxRecDepth 16384

noncomputable section

namespace Cert.KernelIdeal.Arrays

open Cert.KernelIdeal Cert.KernelIdeal.Gen Cert.Words Cert.KernelIdeal.Block Cert.KernelIdeal.Run
open Idealize.ShloMosaic hiding ix1 ix2
open Idealize.ShloMosaic.TcCoe Idealize.ShloMosaic.Tactic Idealize.ShloMosaic.ValueIdx
open Idealize.SL.Sem
open Idealize.ShloMosaic.Pipeline (Dat Cfg Window cellOf)

variable {F : FTy → Type} [FloatOps F]

/-- The block that row `i` lies in, and its row there. -/
def blockOf (i : Fin 1024) : Fin grid0.N := ⟨i.val / 16, by have := i.isLt; show i.val / 16 < 64; omega⟩
def rowIn (i : Fin 1024) : Fin 16 := ⟨i.val % 16, Nat.mod_lt _ (by decide)⟩

/-- Block `t` of the logits. -/
def rowsOf (X : FVec F S1024x100000 .f32) (t : Fin grid0.N) : Vec F S16x100000 .f32 :=
  fun y => X (ix2 ⟨t.val * 16 + (y 0).val, by have h : t.val < 64 := t.isLt; have h' : (y 0).val < 16 := (y 0).isLt; omega⟩ (y 1))

/-- The array of log probabilities, -/
def lpArr (X : FVec F S1024x100000 .f32) : FVec F S1024x100000 .f32 :=
  fun i => lp (rowsOf X (blockOf (i 0))) (ix2 (rowIn (i 0)) (i 1))

/-- of selected ones, -/
def selArr (X : FVec F S1024x100000 .f32) (x0 : IVec S1024x2 32) (x1 : IVec S11 32) : FVec F S1024x1 .f32 :=
  fun i => sel (grid0.coords (blockOf (i 0))) x0 x1 (rowsOf X (blockOf (i 0))) (ix2 (rowIn (i 0)) 0)

/-- and of entropies. -/
def entArr (X : FVec F S1024x100000 .f32) : FVec F S1024x1 .f32 :=
  fun i => ent (rowsOf X (blockOf (i 0))) (ix2 (rowIn (i 0)) 0)

/-- A row number split into its block and its row there. -/
theorem split_row (i : Fin 1024) (t : Fin grid0.N) (r : Fin 16) (h : i.val = t.val * 16 + r.val) :
    blockOf i = t ∧ rowIn i = r := by
  have := r.isLt
  exact ⟨Fin.ext (show i.val / 16 = t.val by omega), Fin.ext (show i.val % 16 = r.val by omega)⟩

variable (m : (ℓ : Loc nD τ sig) → Buf (Elt F) ℓ) (c : Dev nD)

/-- The logits' window at a point is that block of the logits. -/
theorem iblk_logits (t : Fin cfg0.N) : iblk m c 2 t = rowsOf (m ((c.tc : Thread nD τ).loc main_arg0)) t := by
  funext y
  blk_simp [iblk, V, rowsOf]
  refine congrArg (m ((c.tc : Thread nD τ).loc main_arg0)) ?_
  blk_ext [index_logits t]

/-- The three arrays, from what each point leaves of its block. -/
theorem final_lp : (dats m 0 c).arrAt 3 cfg0.N = lpArr (m ((c.tc : Thread nD τ).loc main_arg0)) := by
  refine (dats m 0 c).arrAt_eq_of_covers 3 _ (by decide +kernel) fun t hf y => ?_
  have e0 : ((((cfg0.win 3).blk t).view.emb y) 0 : Fin 1024).val = t.val * 16 + (y 0).val := by blk_simp [index_lp t]
  have e1 : (((cfg0.win 3).blk t).view.emb y) 1 = y 1 := by apply Fin.ext; blk_simp [index_lp t]
  obtain ⟨hb, hr⟩ := split_row _ t (y 0) e0
  refine Eq.trans (b := lp (rowsOf (m ((c.tc : Thread nD τ).loc main_arg0)) t) y) ?_ ?_
  · blk_simp
    rw [after_lp, iblk_logits]
  · unfold lpArr
    rw [hb, hr, e1]
    exact congrArg _ (funext fun a => by match a with
      | ⟨0, _⟩ => rfl
      | ⟨1, _⟩ => rfl)

/-- A one-column block is read at its rows. -/
theorem column_index (y : S16x1.Idx) : y = ix2 (y 0) 0 := funext fun a => by match a with
  | ⟨0, _⟩ => rfl
  | ⟨1, _⟩ => exact Fin.ext (by have h : (y 1).val < 1 := (y 1).isLt; show (y 1).val = 0; omega)

theorem final_sel : (dats m 0 c).arrAt 4 cfg0.N
    = selArr (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have e0 : ((((cfg0.win 4).blk t).view.emb y) 0 : Fin 1024).val = t.val * 16 + (y 0).val := by blk_simp [index_sel t]
  obtain ⟨hb, hr⟩ := split_row _ t (y 0) e0
  refine Eq.trans (b := sel (grid0.coords t) (m ((c.tc : Thread nD τ).loc main_arg1)) (m ((c.tc : Thread nD τ).loc main_arg2))
    (rowsOf (m ((c.tc : Thread nD τ).loc main_arg0)) t) y) ?_ ?_
  · blk_simp
    rw [after_sel, iblk_logits, iblk_acts, iblk_cum]
  · unfold selArr
    rw [hb, hr]
    exact congrArg _ (column_index y)

theorem final_ent : (dats m 0 c).arrAt 5 cfg0.N = entArr (m ((c.tc : Thread nD τ).loc main_arg0)) := by
  refine (dats m 0 c).arrAt_eq_of_covers 5 _ (by decide +kernel) fun t hf y => ?_
  have e0 : ((((cfg0.win 5).blk t).view.emb y) 0 : Fin 1024).val = t.val * 16 + (y 0).val := by blk_simp [index_ent t]
  obtain ⟨hb, hr⟩ := split_row _ t (y 0) e0
  refine Eq.trans (b := ent (rowsOf (m ((c.tc : Thread nD τ).loc main_arg0)) t) y) ?_ ?_
  · blk_simp
    rw [after_ent, iblk_logits]
  · unfold entArr
    rw [hb, hr]
    exact congrArg _ (column_index y)

/-- No two windows have one array. -/
theorem arr_injective : Function.Injective (Pipeline.arrRef spec0) := by decide

/-- The two vectors that the reshapes behind the grid hand over. -/
theorem tail_sel : Pipeline.afterTail₀ cfgs (dats m) 0 (V0 m) [hostOps1] c main_v1
    = shapeCast S1024 ((dats m 0 c).arrAt 4 cfg0.N) shapeCasts_S1024x1_S1024 := by
  unfold Pipeline.afterTail₀
  simp only [hostOps1, List.flatten_cons, List.flatten_nil, List.append_nil]
  after_results_simp
  exact congrArg (fun x => shapeCast S1024 x shapeCasts_S1024x1_S1024) (Pipeline.withArrays_arr spec0 arr_injective c _ _ 4)

theorem tail_ent : Pipeline.afterTail₀ cfgs (dats m) 0 (V0 m) [hostOps1] c main_v2
    = shapeCast S1024 ((dats m 0 c).arrAt 5 cfg0.N) shapeCasts_S1024x1_S1024 := by
  unfold Pipeline.afterTail₀
  simp only [hostOps1, List.flatten_cons, List.flatten_nil, List.append_nil]
  after_results_simp
  exact congrArg (fun x => shapeCast S1024 x shapeCasts_S1024x1_S1024) (Pipeline.withArrays_arr spec0 arr_injective c _ _ 5)

/-- A vector made of a column of 1024. -/
theorem vector_apply (v : FVec F S1024x1 .f32) (h) (i : Fin 1024) : shapeCast S1024 v h (ix1 i) = v (ix2 i 0) :=
  Idealize.ShloMosaic.shapeCast_apply v h _ _ (by rw [Shape.rowMajor_val_one, Shape.rowMajor_val_two]; simp)

/-- THE RUN'S VALUES: the program terminates with the three results as named here and its arguments as they were. -/
theorem values (ρ : Dev nD → PrngReg) (hT : Tables m) :
    θ_run defs (onTc (τ := τ) (main (F := F))) ⟨m, fun _ => 0, ρ⟩ (fun r => ∀ c : Dev nD,
      r.2.mem ((c.tc : Thread nD τ).loc main_v1) = shapeCast S1024 (selArr (m ((c.tc : Thread nD τ).loc main_arg0))
        (m ((c.tc : Thread nD τ).loc main_arg1)) (m ((c.tc : Thread nD τ).loc main_arg2))) shapeCasts_S1024x1_S1024
      ∧ r.2.mem ((c.tc : Thread nD τ).loc main_v2) = shapeCast S1024 (entArr (m ((c.tc : Thread nD τ).loc main_arg0))) shapeCasts_S1024x1_S1024
      ∧ r.2.mem ((c.tc : Thread nD τ).loc main_v0_0) = lpArr (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1.1.rest_eq c main_v1 (by decide)).trans ((tail_sel m c).trans (by rw [final_sel])),
        (h.1.1.rest_eq c main_v2 (by decide)).trans ((tail_ent m c).trans (by rw [final_ent])),
        (h.1.1.out_eq c 3).trans (final_lp m c), h.2.1 c⟩)
    (θ_run_and (run m ρ hT) (quiescent m ρ hT))

end Cert.KernelIdeal.Arrays

end
-- ==== Proof.BlockValue.lean ====
/- The block's results at the extended reals, row by row: each row's log probabilities and entropy from the row's maximum,
   its sum of exponentials and its sum of exponentials times exponents. The kernel takes those sums in 97 groups of 1024
   lanes, lane by lane, and a remainder of 672 lanes; here they are put together to sums over all 100000 lanes. -/
module

public import proofs.«01_k».proof.Proof.Block
public import proofs.«01_k».proof.Proof.Rows

@[expose] public section

set_option maxRecDepth 16384

noncomputable section

namespace Cert.KernelIdeal.BlockValue

open Cert.KernelIdeal Cert.KernelIdeal.Gen Cert.KernelIdeal.Block Cert.Softmax Cert.Rows Cert.Words
open Idealize.ShloMosaic Idealize.ShloMosaic.ValueIdx

/-! ## Sums over the lanes, regrouped -/

/-- A sum over `n` groups of `w` lanes, taken group by group, is the sum over their `n w` lanes. -/
theorem sum_groups {A : Type} [AddCommMonoid A] (g : ℕ → A) (w n : ℕ) :
    ∑ k ∈ Finset.range n, ∑ l ∈ Finset.range w, g (k * w + l) = ∑ j ∈ Finset.range (n * w), g j := by
  induction n with
  | zero => simp
  | succ n ih => rw [Finset.sum_range_succ, ih, Nat.succ_mul, Finset.sum_range_add]

/-- The kernel's order of summation: each of 1024 lanes over the 97 groups, then the lanes, then the 672 lanes left over. -/
theorem sum_lanes {A : Type} [AddCommMonoid A] (f : Fin 100000 → A) :
    (∑ l : Fin 1024, ∑ k ∈ Finset.range 97, f (Fin.ofNat 100000 (k * 1024 + l.val)))
      + ∑ t : Fin 672, f (Fin.ofNat 100000 (99328 + t.val)) = ∑ j, f j := by
  let g : ℕ → A := fun n => f (Fin.ofNat 100000 n)
  have h0 : ∑ j, f j = ∑ j : Fin 100000, g j.val :=
    Finset.sum_congr rfl fun j _ => congrArg f (Fin.ext (Nat.mod_eq_of_lt j.isLt).symm)
  rw [Finset.sum_comm, h0, Fin.sum_univ_eq_sum_range g 100000,
    show Finset.range 100000 = Finset.range (97 * 1024 + 672) from rfl, Finset.sum_range_add, ← sum_groups g 1024 97]
  refine congrArg₂ (· + ·) (Finset.sum_congr rfl fun k _ => ?_) ?_
  · exact Fin.sum_univ_eq_sum_range (fun l => g (k * 1024 + l)) 1024
  · exact Fin.sum_univ_eq_sum_range (fun t => g (99328 + t)) 672

section Generic

variable {F : FTy → Type} [FloatOps F]

/-! ## The layout operations, read -/

/-- A column made of a vector of 16. -/
theorem column_apply (v : FVec F S16 .f32) (h) (r : Fin 16) : shapeCast S16x1 v h (ix2 r 0) = v (ix1 r) :=
  Idealize.ShloMosaic.shapeCast_apply v h _ _ (by rw [Shape.rowMajor_val_one, Shape.rowMajor_val_two]; simp)

/-- A column of 16 repeated along the rows. -/
theorem spread_apply {k : ℕ} (v : FVec F S16x1 .f32) (h : S16x1.Broadcasts ⟨2, ![16, k]⟩) (r : Fin 16) (j : Fin k) :
    broadcastTo ⟨2, ![16, k]⟩ v h (ix2 r j) = v (ix2 r 0) :=
  congrArg v (funext fun a => by match a with
    | ⟨0, _⟩ => exact Fin.ext rfl
    | ⟨1, _⟩ => exact Fin.ext rfl)

/-- A group's exponents: its entries less the row's maximum. -/
theorem exponent_apply (x2 : Vec F S16x100000 .f32) (v : Vec F S16x1024 .f32) (r : Fin 16) (l : Fin 1024) :
    k0_pay5 x2 v (ix2 r l) = FloatOps.subf (v (ix2 r l)) (k0_pay2 x2 (ix2 r 0)) :=
  congrArg (FloatOps.subf (v (ix2 r l))) (spread_apply (k0_pay2 x2) _ r l)

/-- The same of the 672 lanes left over. -/
theorem exponent_tail_apply (x2 : Vec F S16x100000 .f32) (v : Vec F S16x672 .f32) (r : Fin 16) (l : Fin 672) :
    k0_pay9 x2 v (ix2 r l) = FloatOps.subf (v (ix2 r l)) (k0_pay2 x2 (ix2 r 0)) :=
  congrArg (FloatOps.subf (v (ix2 r l))) (spread_apply (k0_pay2 x2) _ r l)

/-- A group added to the running sums, at a lane. -/
theorem sums_succ_fst (x2 : Vec F S16x100000 .f32) (k : ℕ) (r : Fin 16) (l : Fin 1024) :
    (sums x2 (k + 1)).1 (ix2 r l)
      = FloatOps.addf ((sums x2 k).1 (ix2 r l)) (FloatOps.exp (k0_pay5 x2 (chunk x2 k) (ix2 r l))) := rfl

theorem sums_succ_snd (x2 : Vec F S16x100000 .f32) (k : ℕ) (r : Fin 16) (l : Fin 1024) :
    (sums x2 (k + 1)).2 (ix2 r l) = FloatOps.addf ((sums x2 k).2 (ix2 r l))
      (FloatOps.mulf (FloatOps.exp (k0_pay5 x2 (chunk x2 k) (ix2 r l))) (k0_pay5 x2 (chunk x2 k) (ix2 r l))) := rfl

/-- The remainder's exponentials. -/
theorem exp_tail_apply (x2 : Vec F S16x100000 .f32) (v : Vec F S16x672 .f32) (r : Fin 16) (l : Fin 672) :
    k0_pay10 x2 v (ix2 r l) = FloatOps.exp (k0_pay9 x2 v (ix2 r l)) := rfl

/-- The exponentials times the exponents of the remainder. -/
theorem weighted_tail_apply (x2 : Vec F S16x100000 .f32) (v : Vec F S16x672 .f32) (r : Fin 16) (l : Fin 672) :
    mulf (k0_pay10 x2 v) (k0_pay9 x2 v) (ix2 r l)
      = FloatOps.mulf (FloatOps.exp (k0_pay9 x2 v (ix2 r l))) (k0_pay9 x2 v (ix2 r l)) := rfl

/-- The rows' maxima. -/
def rowMax (x2 : Vec F S16x100000 .f32) : FVec F S16 .f32 :=
  multiReduction .maximumf [1] S16 x2 0xFF800000#32 reduces_S16x100000_S16 (.inl rfl) rfl

theorem max_column (x2 : Vec F S16x100000 .f32) (r : Fin 16) : k0_pay2 x2 (ix2 r 0) = rowMax x2 (ix1 r) :=
  column_apply (rowMax x2) _ r

/-- The sum of a row of the running sums; -/
def laneSum (s : FVec F S16x1024 .f32) : FVec F S16 .f32 :=
  multiReduction .add [1] S16 s 0x00000000#32 reduces_S16x1024_S16 (.inl rfl) rfl

/-- of the remainder. -/
def tailSum (v : FVec F S16x672 .f32) : FVec F S16 .f32 :=
  multiReduction .add [1] S16 v 0x00000000#32 reduces_S16x672_S16 (.inl rfl) rfl

/-- A row's sum of exponentials, from its two parts. -/
theorem mass_parts (x2 : Vec F S16x100000 .f32) (s : FVec F S16x1024 .f32) (v : Vec F S16x672 .f32) (r : Fin 16) :
    k0_pay11 x2 s v (ix2 r 0) = FloatOps.addf
      (laneSum s (ix1 r)) (tailSum (k0_pay10 x2 v) (ix1 r)) :=
  congrArg₂ FloatOps.addf (column_apply _ _ r) (column_apply _ _ r)

/-- A row's entropy, from the sum of exponentials and the two parts of the sum of exponentials times exponents. -/
theorem entropy_parts (x2 : Vec F S16x100000 .f32) (s s' : FVec F S16x1024 .f32) (v : Vec F S16x672 .f32) (r : Fin 16) :
    k0_pay15 x2 s s' v (ix2 r 0) = FloatOps.subf (FloatOps.log (k0_pay11 x2 s v (ix2 r 0))) (FloatOps.divf
      (FloatOps.addf (laneSum s' (ix1 r)) (tailSum (mulf (k0_pay10 x2 v) (k0_pay9 x2 v)) (ix1 r)))
      (k0_pay11 x2 s v (ix2 r 0))) :=
  congrArg (fun z => FloatOps.subf (FloatOps.log (k0_pay11 x2 s v (ix2 r 0))) (FloatOps.divf z (k0_pay11 x2 s v (ix2 r 0))))
    (congrArg₂ FloatOps.addf (column_apply _ _ r) (column_apply _ _ r))

/-- The row's maximum plus the logarithm of its sum. -/
theorem mlz_parts (x2 : Vec F S16x100000 .f32) (r : Fin 16) :
    mlz x2 (ix2 r 0) = FloatOps.addf (k0_pay2 x2 (ix2 r 0)) (FloatOps.log (k0_pay11 x2 (sums x2 97).1 (tail x2) (ix2 r 0))) := rfl

/-- A log probability. -/
theorem lp_parts (x2 : Vec F S16x100000 .f32) (r : Fin 16) (j : Fin 100000) :
    lp x2 (ix2 r j) = FloatOps.subf (x2 (ix2 r j)) (mlz x2 (ix2 r 0)) :=
  congrArg (FloatOps.subf (x2 (ix2 r j))) (spread_apply (mlz x2) _ r j)

/-- The terms of the sum that picks the lane `l` of a group of 128; -/
def pickTerms (l : BitVec 32) (ch : Vec F S1x128 .f32) : FVec F S1x128 .f32 :=
  select (cmpi .eq (iota .tc S1x128 32 [1] iota_S1x128_d1_w32) (broadcast S1x128 l)) ch
    (broadcast S1x128 (Scalar.ofBits .f32 0x00000000#32))

/-- at a lane. -/
theorem pickTerms_apply (l : BitVec 32) (ch : Vec F S1x128 .f32) (j : Fin 128) (hl : l.toNat < 128) :
    pickTerms l ch (ix2 0 j) = if j = ⟨l.toNat, hl⟩ then ch (ix2 0 j) else FloatOps.ofBits .f32 0x00000000#32 := by
  show Scalar.select (Scalar.cmpi .eq (BitVec.ofNat 32 (0 * 128 + j.val)) l) (ch (ix2 0 j)) (FloatOps.ofBits .f32 0x00000000#32) = _
  rw [Nat.zero_mul, Nat.zero_add]
  have hj : (BitVec.ofNat 32 j.val).toNat = j.val := by
    rw [BitVec.toNat_ofNat]; exact Nat.mod_eq_of_lt (by have := j.isLt; omega)
  by_cases h : j = ⟨l.toNat, hl⟩
  · rw [if_pos h, show BitVec.ofNat 32 j.val = l from BitVec.eq_of_toNat_eq (by rw [hj, h])]
    show Scalar.select (BitVec.ofBool (l == l)) _ _ = _
    rw [beq_self_eq_true]; rfl
  · rw [if_neg h]
    show Scalar.select (BitVec.ofBool (BitVec.ofNat 32 j.val == l)) _ _ = _
    rw [beq_eq_false_iff_ne.2 fun e => h (Fin.ext (by rw [← hj, e]))]; rfl

/-- The sum that picks. -/
theorem pick_eq (l : BitVec 32) (ch : Vec F S1x128 .f32) :
    pick l ch = multiReduction .add [1] S1 (pickTerms l ch) 0x00000000#32 reduces_S1x128_S1 (.inl rfl) rfl := rfl

end Generic

/-! ## The rows at the extended reals -/

/-- Row `r` of a block. -/
abbrev row (x2 : Vec Ideal S16x100000 .f32) (r : Fin 16) : Fin 100000 → EReal := fun j => x2 (ix2 r j)

/-- The two sums. -/
theorem laneSum_apply (s : FVec Ideal S16x1024 .f32) (r : Fin 16) : laneSum s (ix1 r) = ∑ l : Fin 1024, s (ix2 r l) :=
  sum_row s _ _ _ _ r

theorem tailSum_apply (v : FVec Ideal S16x672 .f32) (r : Fin 16) : tailSum v (ix1 r) = ∑ t : Fin 672, v (ix2 r t) :=
  sum_row v _ _ _ _ r

/-- The lane picked is the lane named: the other terms are zero. -/
theorem pick_apply (l : BitVec 32) (ch : Vec Ideal S1x128 .f32) (hl : l.toNat < 128) :
    pick l ch (ix1 0) = ch (ix2 0 ⟨l.toNat, hl⟩) := by
  refine (congrFun (pick_eq l ch) (ix1 0)).trans ((sum_row (n := 1) (k := 128) (pickTerms l ch) 0x00000000#32 reduces_S1x128_S1 (.inl rfl) rfl 0).trans ?_)
  rw [Finset.sum_eq_single_of_mem ⟨l.toNat, hl⟩ (Finset.mem_univ _)]
  · rw [pickTerms_apply l ch _ hl, if_pos rfl]
  · intro j _ hj
    rw [pickTerms_apply l ch j hl, if_neg hj]
    exact Ideal.ofBits_zero_f32

section Ideal

variable (x2 : Vec Ideal S16x100000 .f32) (r : Fin 16)

/-- The row's maximum. -/
theorem max_apply : k0_pay2 x2 (ix2 r 0) = top (row x2 r) :=
  (max_column x2 r).trans (max_row (n := 16) (k := 100000) x2 reduces_S16x100000_S16 (.inl rfl) rfl r)

/-- The running sums after `n` groups, at a lane. -/
theorem sums_fst (n : ℕ) (l : Fin 1024) : (sums x2 n).1 (ix2 r l)
    = ∑ k ∈ Finset.range n, Ideal.exp (row x2 r (Fin.ofNat 100000 (k * 1024 + l.val)) - top (row x2 r)) := by
  induction n with
  | zero => exact Ideal.ofBits_zero_f32
  | succ n ih =>
    rw [sums_succ_fst, ih, exponent_apply, max_apply, Finset.sum_range_succ]; rfl

theorem sums_snd (n : ℕ) (l : Fin 1024) : (sums x2 n).2 (ix2 r l)
    = ∑ k ∈ Finset.range n, Ideal.exp (row x2 r (Fin.ofNat 100000 (k * 1024 + l.val)) - top (row x2 r))
        * (row x2 r (Fin.ofNat 100000 (k * 1024 + l.val)) - top (row x2 r)) := by
  induction n with
  | zero => exact Ideal.ofBits_zero_f32
  | succ n ih =>
    rw [sums_succ_snd, ih, exponent_apply, max_apply, Finset.sum_range_succ]; rfl

/-- The remainder's exponents. -/
theorem tail_apply (t : Fin 672) : k0_pay9 x2 (tail x2) (ix2 r t)
    = row x2 r (Fin.ofNat 100000 (99328 + t.val)) - top (row x2 r) := by
  rw [exponent_tail_apply, max_apply]; rfl

/-- The row's sum of exponentials is over all its lanes. -/
theorem mass_apply : k0_pay11 x2 (sums x2 97).1 (tail x2) (ix2 r 0) = mass (row x2 r) (top (row x2 r)) := by
  rw [mass_parts, laneSum_apply, tailSum_apply, mass, ← sum_lanes]
  refine congrArg₂ (· + ·) (Finset.sum_congr rfl fun l _ => sums_fst x2 r 97 l) (Finset.sum_congr rfl fun t _ => ?_)
  rw [exp_tail_apply, tail_apply]; rfl

/-- So is its sum of exponentials times exponents: the row's entropy. -/
theorem ent_apply : ent x2 (ix2 r 0) = Ideal.log (mass (row x2 r) (top (row x2 r)))
    - Ideal.div (moment (row x2 r) (top (row x2 r))) (mass (row x2 r) (top (row x2 r))) := by
  unfold ent
  rw [entropy_parts, mass_apply, laneSum_apply, tailSum_apply, Ideal.subf_def, Ideal.log_def, Ideal.divf_def, Ideal.addf_def]
  refine congrArg (fun z => Ideal.log (mass (row x2 r) (top (row x2 r))) - Ideal.div z (mass (row x2 r) (top (row x2 r)))) ?_
  rw [moment, ← sum_lanes]
  refine congrArg₂ (· + ·) (Finset.sum_congr rfl fun l _ => sums_snd x2 r 97 l) (Finset.sum_congr rfl fun t _ => ?_)
  rw [weighted_tail_apply, tail_apply]; rfl

/-- What is taken off each entry of the row. -/
theorem mlz_apply : mlz x2 (ix2 r 0) = top (row x2 r) + Ideal.log (mass (row x2 r) (top (row x2 r))) := by
  rw [mlz_parts, max_apply, mass_apply]; rfl

/-- A log probability of the row. -/
theorem lp_apply (j : Fin 100000) : lp x2 (ix2 r j)
    = row x2 r j - (top (row x2 r) + Ideal.log (mass (row x2 r) (top (row x2 r)))) := by
  rw [lp_parts, mlz_apply]; rfl

/-- A selected log probability: the row's entry that the action names. -/
theorem sel_apply (i : grid0.Coords) (x0 : Vec Ideal S1024x2 .i32) (x1 : Vec Ideal S11 .i32)
    (h : (wordOf x0 x1 (tabRow i r)).toNat < 99968) :
    sel i x0 x1 x2 (ix2 r 0) = row x2 r (Fin.ofNat 100000 (wordOf x0 x1 (tabRow i r)).toNat)
      - (top (row x2 r) + Ideal.log (mass (row x2 r) (top (row x2 r)))) := by
  have hl := lane_toNat _ h
  have hb := base_toNat _ h
  have hlt : (lane (wordOf x0 x1 (tabRow i r))).toNat < 128 := by rw [hl]; exact Nat.mod_lt _ (by decide)
  refine congrArg₂ (fun a b : EReal => a - b) ((pick_apply _ _ hlt).trans ?_) (mlz_apply x2 r)
  refine congrArg (fun n => x2 (ix2 r (Fin.ofNat 100000 n))) ?_
  show (base (wordOf x0 x1 (tabRow i r))).toNat + (lane (wordOf x0 x1 (tabRow i r))).toNat = _
  rw [hl, hb]; exact Nat.div_add_mod' _ _

end Ideal

end Cert.KernelIdeal.BlockValue

end
-- ==== Proof.Reference.lean ====
/- What the reference computes, stage by stage, and its three results read at an index: a log probability and an entropy
   from the row's maximum and its sum of exponentials; a selected log probability at the lane the action names. -/
module

public import proofs.«01_k».proof.Proof.Words
public import proofs.«01_k».proof.Proof.Rows
public import proofs.«01_k».proof.Proof.Precondition
public import proofs.«01_k».proof.Proof.Gen.ReferenceIdeal
public import proofs.«01_k».proof.Proof.Gen.ReferenceIdeal.Run
public import Idealize.ShloMosaic.Lib.StableHlo.Predicate
public import Idealize.ShloMosaic.Lib.ReduceAll
public import Idealize.ShloMosaic.Lib.Pipeline.Value

@[expose] public section

set_option maxRecDepth 16384

noncomputable section

namespace Cert.Reference

open Cert.ReferenceIdeal Cert.ReferenceIdeal.Gen Cert.Words Cert.Softmax Cert.Rows
open Idealize.ShloMosaic
open Idealize.ShloMosaic.TcCoe Idealize.ShloMosaic.ValueIdx Idealize.SL.Sem
open Idealize.ShloMosaic.StableHlo.Predicate (ixP gather_take)

variable {F : FTy → Type} [FloatOps F]

/-! ## The stages -/

/-- The actions' types and their parameters. -/
def typ (x0 : IVec S1024x2 32) : IVec S1024 32 :=
  shapeCast S1024 (extractStridedSlice S1024x1 ![0, 0] x0 slices_S1024x2_S1024x1_0_0) shapeCasts_S1024x1_S1024
def par (x0 : IVec S1024x2 32) : IVec S1024 32 :=
  shapeCast S1024 (extractStridedSlice S1024x1 ![0, 1] x0 slices_S1024x2_S1024x1_0_1) shapeCasts_S1024x1_S1024

/-- The types as positions of the offset table, a negative one counted from its end, as a column. -/
def typCol (x0 : IVec S1024x2 32) : IVec S1024x1 32 :=
  broadcastInDim S1024x1 ![0] bcast_S1024_S1024x1_0
    (select (cmpi .slt (typ x0) (broadcastInDim S1024 ![] bcast_S_S1024 (constantI S_ 32 0#32)))
      (addi (typ x0) (broadcastInDim S1024 ![] bcast_S_S1024 (constantI S_ 32 11#32))) (typ x0))

/-- Which of them lie in the table. -/
def typIn (x0 : IVec S1024x2 32) : IVec S1024x1 1 :=
  andi (cmpi .sge (typCol x0) (broadcastInDim S1024x1 ![] bcast_S_S1024x1 (constantI S_ 32 0#32)))
    (cmpi .sle (typCol x0) (broadcastInDim S1024x1 ![0, 1] bcast_S1x1_S1024x1_0_1 (broadcastInDim S1x1 ![1] bcast_S1_S1x1_1 (constantI S1 32 10#32))))

/-- The offsets taken from the table. -/
def offs (x0 : IVec S1024x2 32) (x1 : IVec S11 32) : IVec S1024 32 :=
  select (Host.reduce IntOp.andi (typIn x0) (constantI S_ 1 1#1) reducesTo_S1024x1_S1024_d1 h_S_)
    (Host.gather gather_S11_S1024x1_S1024_n_0_n_n_0_1_1 x1 (typCol x0))
    (broadcastInDim S1024 ![] bcast_S_S1024 (constantI S_ 32 2147483648#32))

/-- The numbers of the logits that the actions name, as a column; -/
def flatCol (x0 : IVec S1024x2 32) (x1 : IVec S11 32) : IVec S1024x1 32 :=
  broadcastInDim S1024x1 ![0] bcast_S1024_S1024x1_0 (addi (addi (offs x0 x1) (typ x0)) (par x0))

/-- as positions of a row, a negative one counted from its end. -/
def flatPos (x0 : IVec S1024x2 32) (x1 : IVec S11 32) : IVec S1024x1x1 32 :=
  shapeCast S1024x1x1
    (select (cmpi .slt (flatCol x0 x1) (broadcastInDim S1024x1 ![] bcast_S_S1024x1 (constantI S_ 32 0#32)))
      (addi (flatCol x0 x1) (broadcastInDim S1024x1 ![] bcast_S_S1024x1 (constantI S_ 32 100000#32))) (flatCol x0 x1))
    shapeCasts_S1024x1_S1024x1x1

/-- Which of them lie in the row. -/
def flatIn (x0 : IVec S1024x2 32) (x1 : IVec S11 32) : IVec S1024x1x1 1 :=
  andi (cmpi .sge (flatPos x0 x1) (broadcastInDim S1024x1x1 ![] bcast_S_S1024x1x1 (constantI S_ 32 0#32)))
    (cmpi .sle (flatPos x0 x1) (broadcastInDim S1024x1x1 ![0, 1, 2] bcast_S1x1x1_S1024x1x1_0_1_2 (broadcastInDim S1x1x1 ![2] bcast_S1_S1x1x1_2 (constantI S1 32 99999#32))))

/-- The rows' maxima, -/
def rowMax (X : FVec F S1024x100000 .f32) : FVec F S1024 .f32 :=
  Host.reduce FloatOps.maximumf X (constant S_ .f32 0xFF800000#32) reducesTo_S1024x100000_S1024_d1 h_S_

/-- the logits less them, -/
def shifted (X : FVec F S1024x100000 .f32) : FVec F S1024x100000 .f32 :=
  subf X (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32)) (rowMax X))))

/-- the rows' sums of exponentials, -/
def rowMass (X : FVec F S1024x100000 .f32) : FVec F S1024 .f32 :=
  Host.reduceAdd (Host.exp (shifted X)) (constant S_ .f32 0x00000000#32) reducesTo_S1024x100000_S1024_d1 h_S_

/-- the log probabilities, -/
def lpRef (X : FVec F S1024x100000 .f32) : FVec F S1024x100000 .f32 :=
  subf (shifted X) (broadcastInDim S1024x100000 ![0, 1] bcast_S1024x1_S1024x100000_0_1
    (Host.log (broadcastInDim S1024x1 ![0] bcast_S1024_S1024x1_0 (rowMass X))))

/-- the entropies, -/
def entRef (X : FVec F S1024x100000 .f32) : FVec F S1024 .f32 :=
  Host.negf (Host.reduceAdd (mulf (Host.exp (lpRef X)) (lpRef X)) (constant S_ .f32 0x00000000#32) reducesTo_S1024x100000_S1024_d1 h_S_)

/-- and the selected log probabilities. -/
def selRef (X : FVec F S1024x100000 .f32) (x0 : IVec S1024x2 32) (x1 : IVec S11 32) : FVec F S1024 .f32 :=
  shapeCast S1024
    (select (Host.reduce IntOp.andi (flatIn x0 x1) (constantI S_ 1 1#1) reducesTo_S1024x1x1_S1024x1_d2 h_S_)
      (Host.gather gather_S1024x100000_S1024x1x1_S1024x1_n_1_0_0_1_2_11 (lpRef X) (flatPos x0 x1))
      (broadcastInDim S1024x1 ![] bcast_S_S1024x1 (constant S_ .f32 0x7FC00000#32)))
    shapeCasts_S1024x1_S1024

/-- The run's results are these. -/
theorem values (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v10) = selRef (m ((c.tc : Thread nD τ).loc main_arg0))
        (m ((c.tc : Thread nD τ).loc main_arg1)) (m ((c.tc : Thread nD τ).loc main_arg2))
      ∧ r.2.mem ((c.tc : Thread nD τ).loc main_v14) = entRef (m ((c.tc : Thread nD τ).loc main_arg0))
      ∧ r.2.mem ((c.tc : Thread nD τ).loc main_v7) = lpRef (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Value.run m ρ

/-! ## Broadcasts and casts, read -/

section Layout

variable {A : Type}

/-- A column made of a vector, -/
theorem column_apply (v : S1024.Idx → A) (h) (r : Fin 1024) : broadcastInDim S1024x1 ![0] h v (ix2 r 0) = v (ix1 r) :=
  congrArg v (funext fun a => by match a with | ⟨0, _⟩ => exact Fin.ext rfl)

/-- repeated along the rows. -/
theorem spread_apply (v : S1024x1.Idx → A) (h) (r : Fin 1024) (j : Fin 100000) :
    broadcastInDim S1024x100000 ![0, 1] h v (ix2 r j) = v (ix2 r 0) :=
  congrArg v (funext fun a => by match a with
    | ⟨0, _⟩ => exact Fin.ext rfl
    | ⟨1, _⟩ => exact Fin.ext rfl)

/-- A vector made of a column. -/
theorem vector_apply (v : S1024x1.Idx → A) (h) (r : Fin 1024) : shapeCast S1024 v h (ix1 r) = v (ix2 r 0) :=
  Idealize.ShloMosaic.shapeCast_apply v h _ _ (by rw [Shape.rowMajor_val_one, Shape.rowMajor_val_two]; simp)

/-- Every index of a column is at a row. -/
theorem column_index (y : S1024x1.Idx) : y = ix2 (y 0) 0 := funext fun a => by match a with
  | ⟨0, _⟩ => rfl
  | ⟨1, _⟩ => exact Fin.ext (by have h : (y 1).val < 1 := (y 1).isLt; show (y 1).val = 0; omega)

/-- A column given a further axis of one. -/
theorem deep_apply (v : S1024x1.Idx → A) (h) (y : S1024x1x1.Idx) : shapeCast S1024x1x1 v h y = v (ix2 (y 0) 0) :=
  Idealize.ShloMosaic.shapeCast_apply v h _ _ (by
    have h1 : (y 1).val < 1 := (y 1).isLt
    have h2 : (y 2).val < 1 := (y 2).isLt
    rw [Shape.rowMajor_val_two, Shape.rowMajor_val_three]
    show (y 0).val * 1 + 0 = ((y 0).val * 1 + (y 1).val) * 1 + (y 2).val
    omega)

end Layout

/-! ## The words -/

/-- A word below 2³¹ is not below zero; -/
theorem not_slt_zero (a : BitVec 32) (h : a.toNat < 2 ^ 31) : IntOp.cmpi .slt a 0#32 = 0#1 := by
  show BitVec.ofBool (a.slt 0#32) = 0#1
  rw [show a.slt 0#32 = false by
    rw [BitVec.slt, BitVec.toInt_eq_toNat_of_lt (by omega)]; simp]; rfl

/-- it is at least zero, -/
theorem sge_zero (a : BitVec 32) (h : a.toNat < 2 ^ 31) : IntOp.cmpi .sge a 0#32 = 1#1 := by
  show BitVec.ofBool ((0#32).sle a) = 1#1
  rw [show (0#32).sle a = true by
    rw [BitVec.sle, BitVec.toInt_eq_toNat_of_lt (x := a) (by omega)]; simp]; rfl

/-- and at most a bound that it is at most as a natural number. -/
theorem sle_bound (a b : BitVec 32) (hb : b.toNat < 2 ^ 31) (h : a.toNat ≤ b.toNat) : IntOp.cmpi .sle a b = 1#1 := by
  show BitVec.ofBool (a.sle b) = 1#1
  rw [show a.sle b = true by
    rw [BitVec.sle, BitVec.toInt_eq_toNat_of_lt (by omega), BitVec.toInt_eq_toNat_of_lt (by omega)]; simpa using h]; rfl

section Words

variable (x0 : IVec S1024x2 32) (x1 : IVec S11 32) (r : Fin 1024)

/-- The index of a row of a column, in the two ways it is written. -/
theorem at_row : (ix2 r 0 : S1024x1.Idx) = ixP r := funext fun a => by match a with
  | ⟨0, _⟩ => rfl
  | ⟨1, _⟩ => rfl

/-- The index of a vector, in the two ways it is written. -/
theorem at_vec {n : Nat} (k : Fin n) : (ix1 k : (⟨1, ![n]⟩ : Shape).Idx) = Shape.Idx.ofFin k := funext fun a => by match a with
  | ⟨0, _⟩ => rfl

/-- The words of a row: its type and its parameter. -/
theorem typ_apply : typ x0 (ix1 r) = x0 (ix2 r 0) :=
  (vector_apply _ _ r).trans ((congrArg _ (at_row r)).trans (Cert.Precondition.column x0 0 ![0, 0] rfl _ r))

theorem par_apply : par x0 (ix1 r) = x0 (ix2 r 1) :=
  (vector_apply _ _ r).trans ((congrArg _ (at_row r)).trans (Cert.Precondition.column x0 1 ![0, 1] rfl _ r))

/-- A type in range stays as it is, -/
theorem typCol_apply (h : (x0 (ix2 r 0)).toNat < 11) : typCol x0 (ix2 r 0) = x0 (ix2 r 0) := by
  unfold typCol
  rw [column_apply]
  show Scalar.select (IntOp.cmpi .slt (typ x0 (ix1 r)) 0#32) _ (typ x0 (ix1 r)) = _
  rw [typ_apply, not_slt_zero _ (by omega)]; rfl

/-- lies in the table, -/
theorem typIn_apply (h : (x0 (ix2 r 0)).toNat < 11) : typIn x0 (ix2 r 0) = 1#1 := by
  show IntOp.andi (IntOp.cmpi .sge (typCol x0 (ix2 r 0)) 0#32) (IntOp.cmpi .sle (typCol x0 (ix2 r 0)) 10#32) = 1#1
  rw [typCol_apply x0 r h, sge_zero _ (by omega), sle_bound _ _ (by decide) (by show _ ≤ 10; omega)]; rfl

/-- so its offset is the table's word there. -/
theorem offs_apply (hk : ∀ r, (x0 (ix2 r 0)).toNat < 11) (h : (x0 (ix2 r 0)).toNat < 11) : offs x0 x1 (ix1 r) = x1 (ix1 ⟨(x0 (ix2 r 0)).toNat, h⟩) := by
  have hin (y : S1024x1.Idx) : typIn x0 y = 1#1 := by rw [column_index y]; exact typIn_apply x0 (y 0) (hk (y 0))
  show Scalar.select (Host.reduce IntOp.andi (typIn x0) _ _ _ (ix1 r)) (Host.gather _ x1 (typCol x0) (ix1 r)) _ = _
  rw [Host.reduce_andi_one _ _ _ _ _ rfl hin, at_vec r, gather_take _ rfl rfl rfl rfl x1 (typCol x0) r (by decide)]
  refine congrArg x1 ((at_vec _).symm.trans (congrArg ix1 (Fin.ext ?_)))
  show min (typCol x0 (ixP r)).toInt.toNat 10 = (x0 (ix2 r 0)).toNat
  rw [← at_row, typCol_apply x0 r h, BitVec.toInt_eq_toNat_of_lt (by omega)]
  simp; omega

/-- The number of the logit that a row's action names, -/
theorem flatCol_apply (hk : ∀ r, (x0 (ix2 r 0)).toNat < 11) (h : (x0 (ix2 r 0)).toNat < 11) :
    flatCol x0 x1 (ix2 r 0) = flat (x0 (ix2 r 0)) (x0 (ix2 r 1)) (x1 (ix1 ⟨(x0 (ix2 r 0)).toNat, h⟩)) := by
  unfold flatCol
  rw [column_apply]
  show IntOp.addi (IntOp.addi (offs x0 x1 (ix1 r)) (typ x0 (ix1 r))) (par x0 (ix1 r)) = _
  rw [offs_apply x0 x1 r hk h, typ_apply, par_apply]; rfl

/-- in range, stays as it is -/
theorem flatPos_apply (hk : Ok x0 x1) (y : S1024x1x1.Idx) : flatPos x0 x1 y = flatCol x0 x1 (ix2 (y 0) 0) := by
  have hw := (hk (y 0)).2 ⟨_, (hk (y 0)).1⟩ rfl
  rw [← flatCol_apply x0 x1 (y 0) (fun r => (hk r).1) (hk (y 0)).1] at hw
  unfold flatPos
  rw [deep_apply]
  show Scalar.select (IntOp.cmpi .slt (flatCol x0 x1 (ix2 (y 0) 0)) 0#32) _ (flatCol x0 x1 (ix2 (y 0) 0)) = _
  rw [not_slt_zero _ (by omega)]; rfl

/-- and lies in the row. -/
theorem flatIn_apply (hk : Ok x0 x1) (y : S1024x1x1.Idx) : flatIn x0 x1 y = 1#1 := by
  have hw := (hk (y 0)).2 ⟨_, (hk (y 0)).1⟩ rfl
  rw [← flatCol_apply x0 x1 (y 0) (fun r => (hk r).1) (hk (y 0)).1, ← flatPos_apply x0 x1 hk y] at hw
  show IntOp.andi (IntOp.cmpi .sge (flatPos x0 x1 y) 0#32) (IntOp.cmpi .sle (flatPos x0 x1 y) 99999#32) = 1#1
  rw [sge_zero _ (by omega), sle_bound _ _ (by decide) (by show _ ≤ 99999; omega)]; rfl

end Words

/-! ## The element taken from a row -/

/-- The batched gather at a row: the row's element at its start index, read signed and held within the row. -/
theorem taken_apply {A : Type} (X : S1024x100000.Idx → A) (idx : IVec S1024x1x1 32) (r : Fin 1024) :
    Host.gather gather_S1024x100000_S1024x1x1_S1024x1_n_1_0_0_1_2_11 X idx (ix2 r 0)
      = X (ix2 r ⟨min (idx (ix3 r 0 0)).toInt.toNat 99999, by omega⟩) := by
  have two : ∀ a : Fin 2, a = 0 ∨ a = 1 := by decide
  refine congrArg X (funext fun a => Fin.ext ?_)
  show GatherDims.start _ _ idx a + GatherDims.batchCoord _ _ a + GatherDims.offCoord _ _ a = _
  rcases two a with rfl | rfl
  · have hb : (0 : Fin 2) ∈ gather_S1024x100000_S1024x1x1_S1024x1_n_1_0_0_1_2_11.operandBatchingDims :=
      List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    exact Nat.zero_add _
  · have hs : (1 : Fin 2) ∈ gather_S1024x100000_S1024x1x1_S1024x1_n_1_0_0_1_2_11.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos hs]
    refine congrArg (fun y => min (idx y).toInt.toNat 99999) (funext fun b => Fin.ext ?_)
    match b with
    | ⟨0, _⟩ => rfl
    | ⟨1, _⟩ => rfl
    | ⟨2, _⟩ => rfl

/-- The selected log probability of a row whose action is in range: the row's log probability at the number the action
    names. -/
theorem selRef_apply (X : FVec F S1024x100000 .f32) (x0 : IVec S1024x2 32) (x1 : IVec S11 32) (hk : Ok x0 x1)
    (r : Fin 1024) (w : BitVec 32) (hw : flatCol x0 x1 (ix2 r 0) = w) (hr : w.toNat < 100000) :
    selRef X x0 x1 (ix1 r) = lpRef X (ix2 r ⟨w.toNat, hr⟩) := by
  unfold selRef
  rw [vector_apply]
  show Scalar.select (Host.reduce IntOp.andi (flatIn x0 x1) _ _ _ (ix2 r 0)) (Host.gather _ _ _ (ix2 r 0)) _ = _
  rw [Host.reduce_andi_one _ _ _ _ _ rfl (flatIn_apply x0 x1 hk), taken_apply]
  refine congrArg (fun k => lpRef X (ix2 r k)) (Fin.ext ?_)
  show min (flatPos x0 x1 (ix3 r 0 0)).toInt.toNat 99999 = w.toNat
  rw [flatPos_apply x0 x1 hk]
  show min (flatCol x0 x1 (ix2 r 0)).toInt.toNat 99999 = w.toNat
  rw [hw, BitVec.toInt_eq_toNat_of_lt (by omega)]
  simp; omega

/-! ## The log probabilities and the entropies -/

section Floats

variable (X : FVec F S1024x100000 .f32) (r : Fin 1024)

/-- A logit less what its row has as maximum. -/
theorem shifted_parts (j : Fin 100000) : shifted X (ix2 r j)
    = FloatOps.subf (X (ix2 r j)) (FloatOps.maximumf (FloatOps.ofBits .f32 0xFF800000#32) (rowMax X (ix1 r))) := by
  refine congrArg (FloatOps.subf (X (ix2 r j))) ?_
  rw [spread_apply, column_apply]; rfl

/-- A log probability is that less the logarithm of its row's sum. -/
theorem lpRef_parts (j : Fin 100000) : lpRef X (ix2 r j)
    = FloatOps.subf (shifted X (ix2 r j)) (FloatOps.hostUnary .log (rowMass X (ix1 r))) := by
  refine congrArg (FloatOps.subf (shifted X (ix2 r j))) ?_
  rw [spread_apply]
  exact congrArg (FloatOps.hostUnary .log) (column_apply _ _ r)

/-- The exponentials, one by one, -/
theorem exp_parts (Y : FVec F S1024x100000 .f32) (i) : Host.exp Y i = FloatOps.hostUnary .exp (Y i) := rfl

/-- the same times their exponents, -/
theorem weighted_parts (Y : FVec F S1024x100000 .f32) (i) :
    mulf (Host.exp Y) Y i = FloatOps.mulf (FloatOps.hostUnary .exp (Y i)) (Y i) := rfl

/-- and an entropy, the negative of the latter's sum. -/
theorem entRef_parts : entRef X (ix1 r) = FloatOps.hostNegf (Host.reduceAdd (mulf (Host.exp (lpRef X)) (lpRef X))
    (constant S_ .f32 0x00000000#32) reducesTo_S1024x100000_S1024_d1 h_S_ (ix1 r)) := rfl

end Floats

section Ideal

variable (X : FVec Ideal S1024x100000 .f32) (r : Fin 1024)

/-- A row of the logits. -/
def line : Fin 100000 → EReal := fun j => X (ix2 r j)

theorem rowMax_apply : rowMax X (ix1 r) = top (line X r) :=
  host_max_row X _ Cert.Precondition.reduces_logits _ r

theorem shifted_apply (j : Fin 100000) : shifted X (ix2 r j) = line X r j - top (line X r) := by
  rw [shifted_parts, rowMax_apply, Ideal.subf_def, Ideal.maximumf_def, ofBits_neg_inf, max_eq_right bot_le]; rfl

/-- A row's sum is of the exponentials of its logits less their maximum. -/
theorem rowMass_apply : rowMass X (ix1 r) = mass (line X r) (top (line X r)) := by
  rw [rowMass, host_sum_row _ _ Cert.Precondition.reduces_logits _ r, mass]
  refine Finset.sum_congr rfl fun j _ => ?_
  rw [exp_parts, shifted_apply, Ideal.hostUnary_exp_def]

/-- A log probability, -/
theorem lpRef_apply (j : Fin 100000) : lpRef X (ix2 r j)
    = (line X r j - top (line X r)) - Ideal.log (mass (line X r) (top (line X r))) := by
  rw [lpRef_parts, shifted_apply, rowMass_apply, Ideal.subf_def, Ideal.hostUnary_log_def]

/-- and an entropy. -/
theorem entRef_apply : entRef X (ix1 r) = -∑ j, Ideal.exp (lpRef X (ix2 r j)) * lpRef X (ix2 r j) :=
  (entRef_parts X r).trans (congrArg (fun z : EReal => -z) ((host_sum_row _ _ Cert.Precondition.reduces_logits _ r).trans
    (Finset.sum_congr rfl fun j _ => by rw [weighted_parts, Ideal.mulf_def, Ideal.hostUnary_exp_def])))

end Ideal

end Cert.Reference

end
-- ==== Proof.Equation.lean ====
/- The kernel's three arrays are the reference's three results: from logits each of whose rows has a finite maximum, and
   actions in range. A row of the kernel's arrays is a row of one of its blocks; there both sides are expressions in the
   row's maximum, its sum of exponentials and its sum of exponentials times exponents. -/
module

public import proofs.«01_k».proof.Proof.Arrays
public import proofs.«01_k».proof.Proof.BlockValue
public import proofs.«01_k».proof.Proof.Reference
public import proofs.«01_k».proof.Proof.Softmax

@[expose] public section

set_option maxRecDepth 16384

noncomputable section

namespace Cert.Equation

open Cert.KernelIdeal Cert.KernelIdeal.Gen Cert.KernelIdeal.Arrays Cert.KernelIdeal.Block Cert.KernelIdeal.BlockValue
open Cert.Words Cert.Softmax
open Cert.Reference (line lpRef entRef selRef lpRef_apply entRef_apply selRef_apply flatCol_apply)
open Idealize.ShloMosaic hiding ix1 ix2 eq_ix1 eq_ix2
open Idealize.ShloMosaic.ValueIdx

variable (X : FVec Ideal S1024x100000 .f32) (r : Fin 1024)

/-- A row of the logits is that row of its block; -/
theorem row_block : row (rowsOf X (blockOf r)) (rowIn r) = line X r := by
  funext j
  exact congrArg (fun i => X (ix2 i j)) (Fin.ext (Nat.div_add_mod' r.val 16))

/-- the coordinate of a grid point is its number, -/
theorem coords_val : ∀ t : Fin grid0.N, (grid0.coords t 0).val = t.val := by decide +kernel

/-- so a row's number in the table is its number. -/
theorem tabRow_block : tabRow (grid0.coords (blockOf r)) (rowIn r) = r := by
  refine Fin.ext ?_
  show 16 * (grid0.coords (blockOf r) 0).val + (rowIn r).val = r.val
  rw [coords_val]
  exact Nat.div_add_mod r.val 16

/-- No logit of a row is infinite whose maximum is not. -/
theorem ne_top (h : top (line X r) ≠ ⊤) (j : Fin 100000) : line X r j ≠ ⊤ :=
  fun hj => h (top_le_iff.1 (hj ▸ le_top (line X r) j))

/-- The two forms of a log probability, and of an entropy, of a row whose maximum is finite. -/
theorem row_logprob (h : top (line X r) ≠ ⊥ ∧ top (line X r) ≠ ⊤) (x : EReal) :
    x - (top (line X r) + Ideal.log (mass (line X r) (top (line X r))))
      = (x - top (line X r)) - Ideal.log (mass (line X r) (top (line X r))) := by
  have hv := ne_top X r h.2
  have hne := exists_ne_bot _ h.1
  obtain ⟨M, hM⟩ : ∃ M : ℝ, (M : EReal) = top (line X r) := ⟨_, EReal.coe_toReal h.2 h.1⟩
  rw [← hM]
  exact logprob_eq (line X r) M hv hne x

theorem row_entropy (h : top (line X r) ≠ ⊥ ∧ top (line X r) ≠ ⊤) :
    Ideal.log (mass (line X r) (top (line X r)))
        - Ideal.div (moment (line X r) (top (line X r))) (mass (line X r) (top (line X r)))
      = -∑ j, Ideal.exp (lpRef X (ix2 r j)) * lpRef X (ix2 r j) := by
  have hv := ne_top X r h.2
  have hne := exists_ne_bot _ h.1
  simp only [lpRef_apply]
  obtain ⟨M, hM⟩ : ∃ M : ℝ, (M : EReal) = top (line X r) := ⟨_, EReal.coe_toReal h.2 h.1⟩
  rw [← hM]
  exact entropy_eq (line X r) M hv hne

variable (hX : ∀ r, top (line X r) ≠ ⊥ ∧ top (line X r) ≠ ⊤)
include hX

/-- THE LOG PROBABILITIES. -/
theorem lp_eq : lpArr X = lpRef X := by
  funext i
  obtain ⟨r, j, rfl⟩ : ∃ (r : Fin 1024) (j : Fin 100000), i = ix2 r j := ⟨_, _, eq_ix2 i⟩
  show lp (rowsOf X (blockOf r)) (ix2 (rowIn r) j) = lpRef X (ix2 r j)
  rw [lp_apply, row_block, lpRef_apply, row_logprob X r (hX r)]

/-- THE ENTROPIES. -/
theorem ent_eq : shapeCast S1024 (entArr X) shapeCasts_S1024x1_S1024 = entRef X := by
  funext i
  obtain ⟨r, rfl⟩ : ∃ r : Fin 1024, i = ix1 r := ⟨_, eq_ix1 i⟩
  rw [vector_apply]
  show ent (rowsOf X (blockOf r)) (ix2 (rowIn r) 0) = entRef X (ix1 r)
  rw [ent_apply, row_block, entRef_apply, row_entropy X r (hX r)]

/-- THE SELECTED LOG PROBABILITIES. -/
theorem sel_eq (x0 : IVec S1024x2 32) (x1 : IVec S11 32) (hk : Ok x0 x1) :
    shapeCast S1024 (selArr X x0 x1) shapeCasts_S1024x1_S1024 = selRef X x0 x1 := by
  funext i
  obtain ⟨r, rfl⟩ : ∃ r : Fin 1024, i = ix1 r := ⟨_, eq_ix1 i⟩
  rw [vector_apply]
  have hw : Cert.Reference.flatCol x0 x1 (ix2 r 0) = wordOf (F := Ideal) x0 x1 r := by
    rw [flatCol_apply x0 x1 r (fun r => (hk r).1) (hk r).1]
    exact congrArg (fun k => flat (x0 (ix2 r 0)) (x0 (ix2 r 1)) (x1 (ix1 k))) (Fin.ext (Nat.mod_eq_of_lt (hk r).1).symm)
  have hb : (wordOf (F := Ideal) x0 x1 r).toNat < 99968 := (hk r).2 _ (Nat.mod_eq_of_lt (hk r).1)
  show sel (grid0.coords (blockOf r)) x0 x1 (rowsOf X (blockOf r)) (ix2 (rowIn r) 0) = selRef X x0 x1 (ix1 r)
  rw [sel_apply _ _ _ _ _ (by rw [tabRow_block]; exact hb), row_block, tabRow_block,
    selRef_apply X x0 x1 hk r _ hw (by omega), lpRef_apply, row_logprob X r (hX r)]
  refine congrArg (fun k => line X r k - top (line X r) - Ideal.log (mass (line X r) (top (line X r)))) (Fin.ext ?_)
  exact Nat.mod_eq_of_lt (by omega)

end Cert.Equation

end
-- ==== Proof.lean ====
/- The proof of the certificate's claims, assembled from the modules of `Proof`. -/
module

public import proofs.«01_k».proof.Defs
public import proofs.«01_k».proof.Proof.SameProgram
public import proofs.«01_k».proof.Proof.Precondition
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_actions_in_range
public import proofs.«01_k».proof.Proof.Gen.Pre_actions_in_range_and_rows_finite
public import Idealize.ShloMosaic.Adequacy
public import Idealize.ShloMosaic.Init

@[expose] public section

noncomputable section

namespace Cert.Proof

open Idealize.ShloMosaic Idealize.SL.Sem

open Idealize.ShloMosaic.TcCoe

/-- The kernel's frame: from actions in range it terminates, its arguments as they were and every counter at zero. -/
theorem kernel_frame : quiescent_Kernel (hKernel := Cert.Kernel.Gen.facts)
    (hPre_actions_in_range := Cert.Pre_actions_in_range.Gen.facts) := fun m g h =>
  Cert.SameProgram.quiescent m g fun c => Cert.Precondition.ok_of_range (h c)

/-- The same at the extended reals, -/
theorem ideal_frame : quiescent_KernelIdeal (hKernelIdeal := Cert.KernelIdeal.Gen.facts)
    (hPre_actions_in_range := Cert.Pre_actions_in_range.Gen.facts) := fun m g h =>
  Cert.KernelIdeal.Run.quiescent m g fun c => Cert.Precondition.ok_of_range (h c)

/-- also under the precondition that says something of the logits. -/
theorem ideal_frame_finite : quiescent_KernelIdeal_pre_actions_in_range_and_rows_finite
    (hKernelIdeal := Cert.KernelIdeal.Gen.facts)
    (hPre_actions_in_range_and_rows_finite := Cert.Pre_actions_in_range_and_rows_finite.Gen.facts) := fun m g h =>
  Cert.KernelIdeal.Run.quiescent m g fun c => Cert.Precondition.ok_of_range (Cert.Precondition.range_of_joined (h c))

/-- The reference's frame, from any arguments; -/
theorem reference_frame : quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.Reference.values m g)

/-- so also from those of the value claim. -/
theorem reference_frame_finite : quiescent_ReferenceIdeal_pre_actions_in_range_and_rows_finite
    (hReferenceIdeal := Cert.ReferenceIdeal.Gen.facts)
    (hPre_actions_in_range_and_rows_finite := Cert.Pre_actions_in_range_and_rows_finite.Gen.facts) := fun m g _ =>
  reference_frame m g trivial

/-- THE VALUES: from arguments that agree, with actions in range and each row's maximum finite, the kernel and the
    reference end with the same three results. -/
theorem values : algebraic_KernelIdeal_ReferenceIdeal_pre_actions_in_range_and_rows_finite
    (hKernelIdeal := Cert.KernelIdeal.Gen.facts) (hReferenceIdeal := Cert.ReferenceIdeal.Gen.facts)
    (hPre_actions_in_range_and_rows_finite := Cert.Pre_actions_in_range_and_rows_finite.Gen.facts) := by
  intro m g m' g' hpre hm
  have hk (c) := Cert.Precondition.ok_of_range (Cert.Precondition.range_of_joined (hpre c))
  have hX (c) (r : Fin 1024) := Cert.Precondition.top_finite (Cert.Precondition.rowBit_of_joined (hpre c) r)
  refine ⟨_, _, _, Cert.KernelIdeal.Arrays.values m g hk,
    (θ_run Cert.ReferenceIdeal.defs _ _).mono (fun r h c => ?_) (Cert.Reference.values m' g')⟩
  obtain ⟨h1, h2, h3, hargs⟩ := h c
  obtain ⟨e0, e1, e2⟩ := hm c
  rw [e0, e1, e2] at h1
  rw [e0] at h2 h3
  exact ⟨h1.trans (Cert.Equation.sel_eq _ (hX c) _ _ (hk c)).symm, h2.trans (Cert.Equation.ent_eq _ (hX c)).symm,
    h3.trans (Cert.Equation.lp_eq _ (hX c)).symm, hargs⟩

/-- All the claims. -/
theorem claim : Cert.Claim :=
  ⟨Cert.Kernel.Gen.facts, Cert.KernelIdeal.Gen.facts, Cert.ReferenceIdeal.Gen.facts, Cert.Pre_actions_in_range.Gen.facts,
    Cert.Pre_actions_in_range_and_rows_finite.Gen.facts, kernel_frame, ideal_frame, ideal_frame_finite, reference_frame,
    reference_frame_finite, trivial, values⟩

end Cert.Proof

end
